-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S65536x128 : Shape := ⟨2, ![65536, 128]⟩
abbrev S65536 : Shape := ⟨1, ![65536]⟩
abbrev S128x128 : Shape := ⟨2, ![128, 128]⟩
abbrev S128 : Shape := ⟨1, ![128]⟩
abbrev S3 : Shape := ⟨1, ![3]⟩
abbrev S_ : Shape := ⟨0, ![]⟩

class Facts : Prop where
  bcast_S_S65536x128 : S_.BroadcastsInDim S65536x128 (![] : Fin 0 → Fin S65536x128.rank)
  bcast_S_S65536 : S_.BroadcastsInDim S65536 (![] : Fin 0 → Fin S65536.rank)
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg7 : FVec F S128x128 .f32) (main_arg8 : FVec F S128 .f32) (main_arg10 : FVec F S128 .f32) (main_v2 : IVec S65536x128 1) (main_v4 : IVec S65536 1) (main_v6 : IVec S65536 1) (main_v9 : IVec S128x128 1) (main_v12 : IVec S128 1) (main_v15 : IVec S128 1) (main_v16 : FVec F S128 .f32) (main_cst_4 : FVec F S_ .f32) : IVec S65536x128 1 × IVec S65536 1 × IVec S65536 1 × IVec S128x128 1 × IVec S128 1 × IVec S128 1 × IVec S128 1 × IVec S128x128 1 × IVec S128 1 × IVec S128 1 :=
  let main_v17 : FVec F S128 .f32 := broadcastInDim S128 ![] bcast_S_S128 main_cst_4
  let main_v18 : IVec S128 1 := cmpf .olt main_v16 main_v17
  let main_v19 : FVec F S128x128 .f32 := Host.absf main_arg7
  let main_cst_5 : FVec F S_ .f32 := constant S_ .f32 0x7F800000#32
  let main_v20 : FVec F S128x128 .f32 := broadcastInDim S128x128 ![] bcast_S_S128x128 main_cst_5
  let main_v21 : IVec S128x128 1 := cmpf .olt main_v19 main_v20
  let main_v22 : FVec F S128 .f32 := Host.absf main_arg8
  let main_cst_6 : FVec F S_ .f32 := constant S_ .f32 0x7F800000#32
  let main_v23 : FVec F S128 .f32 := broadcastInDim S128 ![] bcast_S_S128 main_cst_6
  let main_v24 : IVec S128 1 := cmpf .olt main_v22 main_v23
  let main_v25 : FVec F S128 .f32 := Host.absf main_arg10
  let main_cst_7 : FVec F S_ .f32 := constant S_ .f32 0x7F800000#32
  let main_v26 : FVec F S128 .f32 := broadcastInDim S128 ![] bcast_S_S128 main_cst_7
  let main_v27 : IVec S128 1 := cmpf .olt main_v25 main_v26
  (main_v2, main_v4, main_v6, main_v9, main_v12, main_v15, main_v18, main_v21, main_v24, main_v27)

def fn {F : FTy → Type} [FloatOps F] (main_arg0 : FVec F S65536x128 .f32) (main_arg1 : IVec S65536 32) (main_arg2 : FVec F S128x128 .f32) (main_arg3 : FVec F S128 .f32) (main_arg4 : FVec F S3 .f32) (main_arg5 : FVec F S128 .f32) (main_arg6 : FVec F S128 .f32) (main_arg7 : FVec F S128x128 .f32) (main_arg8 : FVec F S128 .f32) (main_arg9 : FVec F S3 .f32) (main_arg10 : FVec F S128 .f32) (main_arg11 : FVec F S128 .f32) : IVec S65536x128 1 × IVec S65536 1 × IVec S65536 1 × IVec S128x128 1 × IVec S128 1 × IVec S128 1 × IVec S128 1 × IVec S128x128 1 × IVec S128 1 × IVec S128 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 32 := constantI S_ 32 0#32
  let main_v3 : IVec S65536 32 := broadcastInDim S65536 ![] bcast_S_S65536 main_c
  let main_v4 : IVec S65536 1 := cmpi .sge main_arg1 main_v3
  let main_c_0 : IVec S_ 32 := constantI S_ 32 16#32
  let main_v5 : IVec S65536 32 := broadcastInDim S65536 ![] bcast_S_S65536 main_c_0
  let main_v6 : IVec S65536 1 := cmpi .slt main_arg1 main_v5
  let main_v7 : FVec F S128x128 .f32 := Host.absf main_arg2
  let main_cst_1 : FVec F S_ .f32 := constant S_ .f32 0x7F800000#32
  let main_v8 : FVec F S128x128 .f32 := broadcastInDim S128x128 ![] bcast_S_S128x128 main_cst_1
  let main_v9 : IVec S128x128 1 := cmpf .olt main_v7 main_v8
  let main_v10 : FVec F S128 .f32 := Host.absf main_arg3
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_v13 : FVec F S128 .f32 := Host.absf main_arg5
  let main_cst_3 : FVec F S_ .f32 := constant S_ .f32 0x7F800000#32
  let main_v14 : FVec F S128 .f32 := broadcastInDim S128 ![] bcast_S_S128 main_cst_3
  let main_v15 : IVec S128 1 := cmpf .olt main_v13 main_v14
  let main_v16 : FVec F S128 .f32 := Host.absf main_arg6
  let main_cst_4 : FVec F S_ .f32 := constant S_ .f32 0x7F800000#32
  fn_part1 (F := F) main_arg7 main_arg8 main_arg10 main_v2 main_v4 main_v6 main_v9 main_v12 main_v15 main_v16 main_cst_4
-- ==== Kernel.lean ====
abbrev S65536x128 : Shape := ⟨2, ![65536, 128]⟩
abbrev S65536 : Shape := ⟨1, ![65536]⟩
abbrev S128x128 : Shape := ⟨2, ![128, 128]⟩
abbrev S128 : Shape := ⟨1, ![128]⟩
abbrev S3 : Shape := ⟨1, ![3]⟩
abbrev S65536x1 : Shape := ⟨2, ![65536, 1]⟩
abbrev S1x128 : Shape := ⟨2, ![1, 128]⟩
abbrev S4096x128 : Shape := ⟨2, ![4096, 128]⟩
abbrev S4096x1 : Shape := ⟨2, ![4096, 1]⟩
abbrev S16x128 : Shape := ⟨2, ![16, 128]⟩
abbrev S16x1 : Shape := ⟨2, ![16, 1]⟩
abbrev S4096x16 : Shape := ⟨2, ![4096, 16]⟩
abbrev S1 : Shape := ⟨1, ![1]⟩
abbrev S128x32 : Shape := ⟨2, ![128, 32]⟩
abbrev S16x32 : Shape := ⟨2, ![16, 32]⟩

abbrev nBuf : Space → Nat
  | .hbm => 20
  | .vmem => 20
  | .smem => 2
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S128x128, .f32⟩
  | .hbm, ⟨3, _⟩ => ⟨S128, .f32⟩
  | .hbm, ⟨4, _⟩ => ⟨S3, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S3, .f32⟩
  | .hbm, ⟨10, _⟩ => ⟨S128, .f32⟩
  | .hbm, ⟨11, _⟩ => ⟨S128, .f32⟩
  | .hbm, ⟨12, _⟩ => ⟨S65536x1, .i32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S65536x128, .f32⟩
  | .local _ .vmem, ⟨0, _⟩ => ⟨S4096x128, .f32⟩
  | .local _ .vmem, ⟨1, _⟩ => ⟨S4096x128, .f32⟩
  | .local _ .vmem, ⟨2, _⟩ => ⟨S4096x1, .i32⟩
  | .local _ .vmem, ⟨3, _⟩ => ⟨S4096x1, .i32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S65536x128, .f32⟩
  | .local _ .vmem, ⟨15, _⟩ => ⟨S16x128, .f32⟩
  | .local _ .vmem, ⟨16, _⟩ => ⟨S16x128, .f32⟩
  | .local _ .vmem, ⟨17, _⟩ => ⟨S16x1, .f32⟩
  | .local _ .vmem, ⟨18, _⟩ => ⟨S16x128, .f32⟩
  | .local _ .vmem, ⟨19, _⟩ => ⟨S16x128, .f32⟩
  | .local _ .smem, ⟨0, _⟩ => ⟨S3, .f32⟩
  | .local _ .smem, ⟨1, _⟩ => ⟨S3, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg4_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c16_i32 : BitVec 32 := 16#32
  let v11 : BitVec 1 := Scalar.cmpi .slt arg0 c16_i32
  let v12 : BitVec 32 := Scalar.extui v11
  let c0_i32_2 : BitVec 32 := 0#32
  let v13 : BitVec 1 := Scalar.cmpi .ne v12 c0_i32_2
  v13

def k0_off1 (i : grid0.Coords) : Fin 2 → Nat :=
  let arg0 : BitVec 32 := BitVec.ofNat 32 (i 0).val
  let c4096_i32 : BitVec 32 := 4096#32
  let v37 : BitVec 32 := Scalar.muli arg0 c4096_i32
  let v38 : Index := Scalar.indexCast v37
  let c0_17 : Index := 0#32
  ![v38.toNat, 0]
def k0_cond4 (i : grid0.Coords) : BitVec 1 :=
  let arg0 : BitVec 32 := BitVec.ofNat 32 (i 0).val
  let c16_i32_5 : BitVec 32 := 16#32
  let v17 : BitVec 1 := Scalar.cmpi .sge arg0 c16_i32_5
  let c32_i32 : BitVec 32 := 32#32
  let v18 : BitVec 1 := Scalar.cmpi .slt arg0 c32_i32
  let v19 : BitVec 1 := Scalar.andi v17 v18
  let v20 : BitVec 32 := Scalar.extui v19
  let c0_i32_6 : BitVec 32 := 0#32
  let v21 : BitVec 1 := Scalar.cmpi .ne v20 c0_i32_6
  v21

def k0_off2 (i : grid0.Coords) : Fin 2 → Nat :=
  let arg0 : BitVec 32 := BitVec.ofNat 32 (i 0).val
  let c16_i32_11 : BitVec 32 := 16#32
  let v28 : BitVec 32 := Scalar.subi arg0 c16_i32_11
  let c4096_i32 : BitVec 32 := 4096#32
  let v29 : BitVec 32 := Scalar.muli v28 c4096_i32
  let v30 : Index := Scalar.indexCast v29
  let c0_12 : Index := 0#32
  ![v30.toNat, 0]
def k0_cond6 (i : grid0.Coords) : BitVec 1 :=
  let arg0 : BitVec 32 := BitVec.ofNat 32 (i 0).val
  let c32_i32_9 : BitVec 32 := 32#32
  let v25 : BitVec 1 := Scalar.cmpi .sge arg0 c32_i32_9
  let v26 : BitVec 32 := Scalar.extui v25
  let c0_i32_10 : BitVec 32 := 0#32
  let v27 : BitVec 1 := Scalar.cmpi .ne v26 c0_i32_10
  v27

def k0_off3 (i : grid0.Coords) : Fin 2 → Nat :=
  let arg0 : BitVec 32 := BitVec.ofNat 32 (i 0).val
  let c32_i32_11 : BitVec 32 := 32#32
  let v28 : BitVec 32 := Scalar.subi arg0 c32_i32_11
  let c4096_i32 : BitVec 32 := 4096#32
  let v29 : BitVec 32 := Scalar.muli v28 c4096_i32
  let v30 : Index := Scalar.indexCast v29
  let c0_12 : Index := 0#32
  ![v30.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.remsi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S65536x128 : Shape := ⟨2, ![65536, 128]⟩
abbrev S65536 : Shape := ⟨1, ![65536]⟩
abbrev S128x128 : Shape := ⟨2, ![128, 128]⟩
abbrev S128 : Shape := ⟨1, ![128]⟩
abbrev S3 : Shape := ⟨1, ![3]⟩
abbrev S_ : Shape := ⟨0, ![]⟩
abbrev S16 : Shape := ⟨1, ![16]⟩
abbrev S65536x1 : Shape := ⟨2, ![65536, 1]⟩
abbrev S1x128 : Shape := ⟨2, ![1, 128]⟩
abbrev S16x128 : Shape := ⟨2, ![16, 128]⟩
abbrev S16x1 : Shape := ⟨2, ![16, 1]⟩
abbrev S16x130 : Shape := ⟨2, ![16, 130]⟩
abbrev S1 : Shape := ⟨1, ![1]⟩
abbrev S65536x32x4 : Shape := ⟨3, ![65536, 32, 4]⟩
abbrev S16x32x4 : Shape := ⟨3, ![16, 32, 4]⟩
abbrev S16x32 : Shape := ⟨2, ![16, 32]⟩
abbrev S65536x32 : Shape := ⟨2, ![65536, 32]⟩
abbrev S65536x32x1 : Shape := ⟨3, ![65536, 32, 1]⟩

abbrev nBuf : Space → Nat
  | .hbm => 243
  | .vmem => 0
  | .smem => 0
  | _ => 0

abbrev hbmTy0_0 (i : Nat) : BufTy := match i % 128 with
  | 0 => ⟨S65536x128, .f32⟩
  | 1 => ⟨S65536, .i32⟩
  | 2 => ⟨S128x128, .f32⟩
  | 3 => ⟨S128, .f32⟩
  | 4 => ⟨S3, .f32⟩
  | 5 => ⟨S128, .f32⟩
  | 6 => ⟨S128, .f32⟩
  | 7 => ⟨S128x128, .f32⟩
  | 8 => ⟨S128, .f32⟩
  | 9 => ⟨S3, .f32⟩
  | 10 => ⟨S128, .f32⟩
  | 11 => ⟨S128, .f32⟩
  | 12 => ⟨S_, .f32⟩
  | 13 => ⟨S65536, .f32⟩
  | 14 => ⟨S_, .f32⟩
  | 15 => ⟨S16, .f32⟩
  | 16 => ⟨S65536x1, .i32⟩
  | 17 => ⟨S16, .f32⟩
  | 18 => ⟨S_, .f32⟩
  | 19 => ⟨S16, .f32⟩
  | 20 => ⟨S16, .f32⟩
  | 21 => ⟨S65536x128, .f32⟩
  | 22 => ⟨S1x128, .f32⟩
  | 23 => ⟨S65536x128, .f32⟩
  | 24 => ⟨S65536x128, .f32⟩
  | 25 => ⟨S_, .f32⟩
  | 26 => ⟨S16x128, .f32⟩
  | 27 => ⟨S65536x1, .i32⟩
  | 28 => ⟨S16x128, .f32⟩
  | 29 => ⟨S16x1, .f32⟩
  | 30 => ⟨S16x128, .f32⟩
  | 31 => ⟨S16x128, .f32⟩
  | 32 => ⟨S_, .i32⟩
  | 33 => ⟨S_, .f32⟩
  | 34 => ⟨S16x130, .f32⟩
  | 35 => ⟨S1, .f32⟩
  | 36 => ⟨S_, .f32⟩
  | 37 => ⟨S16x128, .f32⟩
  | 38 => ⟨S16x128, .f32⟩
  | 39 => ⟨S16x128, .f32⟩
  | 40 => ⟨S1, .f32⟩
  | 41 => ⟨S_, .f32⟩
  | 42 => ⟨S16x128, .f32⟩
  | 43 => ⟨S16x128, .f32⟩
  | 44 => ⟨S16x128, .f32⟩
  | 45 => ⟨S16x128, .f32⟩
  | 46 => ⟨S1, .f32⟩
  | 47 => ⟨S_, .f32⟩
  | 48 => ⟨S16x128, .f32⟩
  | 49 => ⟨S16x128, .f32⟩
  | 50 => ⟨S16x128, .f32⟩
  | 51 => ⟨S16x128, .f32⟩
  | 52 => ⟨S16x128, .f32⟩
  | 53 => ⟨S16x128, .f32⟩
  | 54 => ⟨S_, .f32⟩
  | 55 => ⟨S16x128, .f32⟩
  | 56 => ⟨S16x128, .f32⟩
  | 57 => ⟨S_, .f32⟩
  | 58 => ⟨S16x128, .f32⟩
  | 59 => ⟨S16x128, .f32⟩
  | 60 => ⟨S_, .i32⟩
  | 61 => ⟨S65536, .i32⟩
  | 62 => ⟨S65536, .i1⟩
  | 63 => ⟨S_, .i32⟩
  | 64 => ⟨S65536, .i32⟩
  | 65 => ⟨S65536, .i32⟩
  | 66 => ⟨S65536, .i32⟩
  | 67 => ⟨S65536x1, .i32⟩
  | 68 => ⟨S65536x128, .f32⟩
  | 69 => ⟨S65536x128, .f32⟩
  | 70 => ⟨S65536x32x4, .f32⟩
  | 71 => ⟨S_, .f32⟩
  | 72 => ⟨S16x32x4, .f32⟩
  | 73 => ⟨S65536x1, .i32⟩
  | 74 => ⟨S16x32x4, .f32⟩
  | 75 => ⟨S_, .f32⟩
  | 76 => ⟨S16x32, .f32⟩
  | 77 => ⟨S65536x32x4, .f32⟩
  | 78 => ⟨S_, .f32⟩
  | 79 => ⟨S16x32x4, .f32⟩
  | 80 => ⟨S65536x1, .i32⟩
  | 81 => ⟨S16x32x4, .f32⟩
  | 82 => ⟨S_, .f32⟩
  | 83 => ⟨S16x32, .f32⟩
  | 84 => ⟨S16x1, .f32⟩
  | 85 => ⟨S_, .f32⟩
  | 86 => ⟨S16x1, .f32⟩
  | 87 => ⟨S16x1, .f32⟩
  | 88 => ⟨S16x32, .f32⟩
  | 89 => ⟨S16x32, .f32⟩
  | 90 => ⟨S16x32, .f32⟩
  | 91 => ⟨S16x32, .f32⟩
  | 92 => ⟨S16x32, .f32⟩
  | 93 => ⟨S16x32, .f32⟩
  | 94 => ⟨S_, .i32⟩
  | 95 => ⟨S65536, .i32⟩
  | 96 => ⟨S65536, .i1⟩
  | 97 => ⟨S_, .i32⟩
  | 98 => ⟨S65536, .i32⟩
  | 99 => ⟨S65536, .i32⟩
  | 100 => ⟨S65536, .i32⟩
  | 101 => ⟨S65536x1, .i32⟩
  | 102 => ⟨S65536x32, .f32⟩
  | 103 => ⟨S65536x32x1, .f32⟩
  | 104 => ⟨S65536x32x4, .f32⟩
  | 105 => ⟨S65536x32x4, .f32⟩
  | 106 => ⟨S_, .i32⟩
  | 107 => ⟨S65536, .i32⟩
  | 108 => ⟨S65536, .i1⟩
  | 109 => ⟨S_, .i32⟩
  | 110 => ⟨S65536, .i32⟩
  | 111 => ⟨S65536, .i32⟩
  | 112 => ⟨S65536, .i32⟩
  | 113 => ⟨S65536x1, .i32⟩
  | 114 => ⟨S65536x32, .f32⟩
  | 115 => ⟨S65536x32x1, .f32⟩
  | 116 => ⟨S_, .f32⟩
  | 117 => ⟨S65536x32x1, .f32⟩
  | 118 => ⟨S65536x32x1, .f32⟩
  | 119 => ⟨S65536x32x1, .f32⟩
  | 120 => ⟨S65536x32x4, .f32⟩
  | 121 => ⟨S65536x32x4, .f32⟩
  | 122 => ⟨S65536x128, .f32⟩
  | 123 => ⟨S1x128, .f32⟩
  | 124 => ⟨S65536x128, .f32⟩
  | 125 => ⟨S65536x128, .f32⟩
  | 126 => ⟨S1x128, .f32⟩
  | 127 => ⟨S65536x128, .f32⟩
  | _ => ⟨S65536x128, .f32⟩

abbrev hbmTy0_1 (i : Nat) : BufTy := match i % 128 with
  | 0 => ⟨S65536x128, .f32⟩
  | 1 => ⟨S_, .f32⟩
  | 2 => ⟨S65536x128, .f32⟩
  | 3 => ⟨S65536x128, .f32⟩
  | 4 => ⟨S65536x128, .f32⟩
  | 5 => ⟨S1x128, .f32⟩
  | 6 => ⟨S65536x128, .f32⟩
  | 7 => ⟨S65536x128, .f32⟩
  | 8 => ⟨S_, .f32⟩
  | 9 => ⟨S16x128, .f32⟩
  | 10 => ⟨S65536x1, .i32⟩
  | 11 => ⟨S16x128, .f32⟩
  | 12 => ⟨S16x1, .f32⟩
  | 13 => ⟨S16x128, .f32⟩
  | 14 => ⟨S16x128, .f32⟩
  | 15 => ⟨S_, .i32⟩
  | 16 => ⟨S_, .f32⟩
  | 17 => ⟨S16x130, .f32⟩
  | 18 => ⟨S1, .f32⟩
  | 19 => ⟨S_, .f32⟩
  | 20 => ⟨S16x128, .f32⟩
  | 21 => ⟨S16x128, .f32⟩
  | 22 => ⟨S16x128, .f32⟩
  | 23 => ⟨S1, .f32⟩
  | 24 => ⟨S_, .f32⟩
  | 25 => ⟨S16x128, .f32⟩
  | 26 => ⟨S16x128, .f32⟩
  | 27 => ⟨S16x128, .f32⟩
  | 28 => ⟨S16x128, .f32⟩
  | 29 => ⟨S1, .f32⟩
  | 30 => ⟨S_, .f32⟩
  | 31 => ⟨S16x128, .f32⟩
  | 32 => ⟨S16x128, .f32⟩
  | 33 => ⟨S16x128, .f32⟩
  | 34 => ⟨S16x128, .f32⟩
  | 35 => ⟨S16x128, .f32⟩
  | 36 => ⟨S16x128, .f32⟩
  | 37 => ⟨S_, .f32⟩
  | 38 => ⟨S16x128, .f32⟩
  | 39 => ⟨S16x128, .f32⟩
  | 40 => ⟨S_, .f32⟩
  | 41 => ⟨S16x128, .f32⟩
  | 42 => ⟨S16x128, .f32⟩
  | 43 => ⟨S_, .i32⟩
  | 44 => ⟨S65536, .i32⟩
  | 45 => ⟨S65536, .i1⟩
  | 46 => ⟨S_, .i32⟩
  | 47 => ⟨S65536, .i32⟩
  | 48 => ⟨S65536, .i32⟩
  | 49 => ⟨S65536, .i32⟩
  | 50 => ⟨S65536x1, .i32⟩
  | 51 => ⟨S65536x128, .f32⟩
  | 52 => ⟨S65536x128, .f32⟩
  | 53 => ⟨S65536x32x4, .f32⟩
  | 54 => ⟨S_, .f32⟩
  | 55 => ⟨S16x32x4, .f32⟩
  | 56 => ⟨S65536x1, .i32⟩
  | 57 => ⟨S16x32x4, .f32⟩
  | 58 => ⟨S_, .f32⟩
  | 59 => ⟨S16x32, .f32⟩
  | 60 => ⟨S65536x32x4, .f32⟩
  | 61 => ⟨S_, .f32⟩
  | 62 => ⟨S16x32x4, .f32⟩
  | 63 => ⟨S65536x1, .i32⟩
  | 64 => ⟨S16x32x4, .f32⟩
  | 65 => ⟨S_, .f32⟩
  | 66 => ⟨S16x32, .f32⟩
  | 67 => ⟨S16x1, .f32⟩
  | 68 => ⟨S_, .f32⟩
  | 69 => ⟨S16x1, .f32⟩
  | 70 => ⟨S16x1, .f32⟩
  | 71 => ⟨S16x32, .f32⟩
  | 72 => ⟨S16x32, .f32⟩
  | 73 => ⟨S16x32, .f32⟩
  | 74 => ⟨S16x32, .f32⟩
  | 75 => ⟨S16x32, .f32⟩
  | 76 => ⟨S16x32, .f32⟩
  | 77 => ⟨S_, .i32⟩
  | 78 => ⟨S65536, .i32⟩
  | 79 => ⟨S65536, .i1⟩
  | 80 => ⟨S_, .i32⟩
  | 81 => ⟨S65536, .i32⟩
  | 82 => ⟨S65536, .i32⟩
  | 83 => ⟨S65536, .i32⟩
  | 84 => ⟨S65536x1, .i32⟩
  | 85 => ⟨S65536x32, .f32⟩
  | 86 => ⟨S65536x32x1, .f32⟩
  | 87 => ⟨S65536x32x4, .f32⟩
  | 88 => ⟨S65536x32x4, .f32⟩
  | 89 => ⟨S_, .i32⟩
  | 90 => ⟨S65536, .i32⟩
  | 91 => ⟨S65536, .i1⟩
  | 92 => ⟨S_, .i32⟩
  | 93 => ⟨S65536, .i32⟩
  | 94 => ⟨S65536, .i32⟩
  | 95 => ⟨S65536, .i32⟩
  | 96 => ⟨S65536x1, .i32⟩
  | 97 => ⟨S65536x32, .f32⟩
  | 98 => ⟨S65536x32x1, .f32⟩
  | 99 => ⟨S_, .f32⟩
  | 100 => ⟨S65536x32x1, .f32⟩
  | 101 => ⟨S65536x32x1, .f32⟩
  | 102 => ⟨S65536x32x1, .f32⟩
  | 103 => ⟨S65536x32x4, .f32⟩
  | 104 => ⟨S65536x32x4, .f32⟩
  | 105 => ⟨S65536x128, .f32⟩
  | 106 => ⟨S1x128, .f32⟩
  | 107 => ⟨S65536x128, .f32⟩
  | 108 => ⟨S65536x128, .f32⟩
  | 109 => ⟨S1x128, .f32⟩
  | 110 => ⟨S65536x128, .f32⟩
  | 111 => ⟨S65536x128, .f32⟩
  | 112 => ⟨S_, .f32⟩
  | 113 => ⟨S65536x128, .f32⟩
  | 114 => ⟨S65536x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call1_cst : Ref sig .tc := ⟨.hbm, 129, rfl⟩
abbrev main_call1_v0 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_17 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_18 : Ref sig .tc := ⟨.hbm, 143, rfl⟩
abbrev main_call2_v0 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_19 : Ref sig .tc := ⟨.hbm, 165, rfl⟩
abbrev main_v128 : Ref sig .tc := ⟨.hbm, 166, rfl⟩
abbrev main_v129 : Ref sig .tc := ⟨.hbm, 167, rfl⟩
abbrev main_cst_20 : Ref sig .tc := ⟨.hbm, 168, rfl⟩
abbrev main_v130 : Ref sig .tc := ⟨.hbm, 169, rfl⟩
abbrev main_v131 : Ref sig .tc := ⟨.hbm, 170, rfl⟩
abbrev main_c_21 : Ref sig .tc := ⟨.hbm, 171, rfl⟩
abbrev main_v132 : Ref sig .tc := ⟨.hbm, 172, rfl⟩
abbrev main_v133 : Ref sig .tc := ⟨.hbm, 173, rfl⟩
abbrev main_c_22 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_23 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_24 : Ref sig .tc := ⟨.hbm, 186, rfl⟩
abbrev main_v144 : Ref sig .tc := ⟨.hbm, 187, rfl⟩
abbrev main_v145 : Ref sig .tc := ⟨.hbm, 188, rfl⟩
abbrev main_cst_25 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_26 : Ref sig .tc := ⟨.hbm, 193, rfl⟩
abbrev main_v149 : Ref sig .tc := ⟨.hbm, 194, rfl⟩
abbrev main_v150 : Ref sig .tc := ⟨.hbm, 195, rfl⟩
abbrev main_cst_27 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_c_28 : Ref sig .tc := ⟨.hbm, 205, rfl⟩
abbrev main_v159 : Ref sig .tc := ⟨.hbm, 206, rfl⟩
abbrev main_v160 : Ref sig .tc := ⟨.hbm, 207, rfl⟩
abbrev main_c_29 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_c_30 : Ref sig .tc := ⟨.hbm, 217, rfl⟩
abbrev main_v169 : Ref sig .tc := ⟨.hbm, 218, rfl⟩
abbrev main_v170 : Ref sig .tc := ⟨.hbm, 219, rfl⟩
abbrev main_c_31 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_32 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_call3_cst : Ref sig .tc := ⟨.hbm, 240, rfl⟩
abbrev main_call3_v0 : Ref sig .tc := ⟨.hbm, 241, rfl⟩
abbrev main_v189 : Ref sig .tc := ⟨.hbm, 242, rfl⟩

abbrev nD : Nat := 1
abbrev τ : Topo := Topo.v7x

variable {F : FTy → Type} [FloatOps F]
-- ==== Proof.Step.lean ====
/- One grid point of the kernel as a step on the contents of its scratch buffers. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Track

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body as a step on the scratch -/

/-- The blocks of the twelve inputs at one grid point. -/
structure Ins (F : FTy → Type) [FloatOps F] where
  x : Vec F S4096x128 .f32
  ids : Vec F S4096x1 .i32
  w0 : Vec F S128x128 .f32
  b0 : Vec F S1x128 .f32
  e0 : Vec F S3 .f32
  g0 : Vec F S1x128 .f32
  t0 : Vec F S1x128 .f32
  w1 : Vec F S128x128 .f32
  b1 : Vec F S1x128 .f32
  e1 : Vec F S3 .f32
  g1 : Vec F S1x128 .f32
  t1 : Vec F S1x128 .f32

/-- The contents of the six scratch buffers: the resident activations, the two running sums, the counts and the
two tables. -/
structure St (F : FTy → Type) [FloatOps F] where
  y : Vec F S65536x128 .f32
  s1 : Vec F S16x128 .f32
  s2 : Vec F S16x128 .f32
  cnt : Vec F S16x1 .f32
  a : Vec F S16x128 .f32
  b : Vec F S16x128 .f32

/-- The body's six conditions on the point, in the order the body tests them: the first point, the first phase,
the second phase's first point, the second phase, the third phase's first point, the third phase. -/
abbrev cond1 (i : grid0.Coords) : Prop :=
  (Scalar.cmpi .ne (Scalar.extui (Scalar.cmpi .eq (BitVec.ofNat 32 (i 0).val) 0#32)) 0#32) = 1#1
@[inherit_doc cond1] abbrev cond2 (i : grid0.Coords) : Prop := k0_cond2 i = 1#1
@[inherit_doc cond1] abbrev cond3 (i : grid0.Coords) : Prop :=
  (Scalar.cmpi .ne (Scalar.extui (Scalar.cmpi .eq (BitVec.ofNat 32 (i 0).val) 16#32)) 0#32) = 1#1
@[inherit_doc cond1] abbrev cond4 (i : grid0.Coords) : Prop := k0_cond4 i = 1#1
@[inherit_doc cond1] abbrev cond5 (i : grid0.Coords) : Prop :=
  (Scalar.cmpi .ne (Scalar.extui (Scalar.cmpi .eq (BitVec.ofNat 32 (i 0).val) 32#32)) 0#32) = 1#1
@[inherit_doc cond1] abbrev cond6 (i : grid0.Coords) : Prop := k0_cond6 i = 1#1

/-- The sums and the counts set to zero. -/
def zeroed (S : St F) : St F := { S with s1 := k0_pay1, s2 := k0_pay2, cnt := k0_pay3 }

/-- The first phase's point: the block of the first layer's product stored, and its sums and counts added. -/
def phase0 (i : grid0.Coords) (X : Ins F) (S : St F) : St F :=
  { S with
    y := VecWindow.put S.y (k0_off1 i) S4096x128.size (k0_pay15 X.x X.w0 X.b0)
    s1 := k0_pay17 (k0_pay4 X.ids) X.x X.w0 X.b0 S.s1
    s2 := k0_pay18 (k0_pay4 X.ids) X.x X.w0 X.b0 S.s2
    cnt := k0_pay5 (k0_pay19 (k0_pay4 X.ids) S.cnt) }

/-- Cell `k` of the three-element table of convolution weights. -/
def cell (e : Vec F S3 .f32) (k : Fin 3) : Elt F .f32 := e (fun a => ⟨k.val, by fin_cases a; exact k.isLt⟩)

/-! ## Loads and stores of whole buffers and of one cell -/

section Whole
variable {sig : RefSig} {κ : Kind} {sp : Space} {e : EltTy} {Val : EltTy → Type} {n k : ℕ}

/-- A load of a whole matrix reads what the view reads. -/
theorem readAt_mat (v : View sig κ sp ⟨2, ![n, k]⟩ e) (f : v.ty.Contents Val)
    (inb : ∀ a, (![0, 0] : Fin 2 → ℕ) a + (![n, k] : Fin 2 → ℕ) a ≤ (⟨2, ![n, k]⟩ : Shape).size a) :
    v.readAt Val (Rect.unit (s := ⟨2, ![n, k]⟩) ![0, 0] ![n, k] inb).toLoadRect f = v.read Val f :=
  View.readAt_full v f inb

/-- A load of a whole matrix just stored reads what was stored. -/
theorem readCov_mat [∀ e, Nonempty (Val e)] (v : View sig κ sp ⟨2, ![n, k]⟩ e)
    (inb inb' : ∀ a, (![0, 0] : Fin 2 → ℕ) a + (![n, k] : Fin 2 → ℕ) a ≤ (⟨2, ![n, k]⟩ : Shape).size a)
    (w : (Rect.unit (s := ⟨2, ![n, k]⟩) ![0, 0] ![n, k] inb').shape.Idx → Val e) (L : List (View.Piece Val ⟨2, ![n, k]⟩ e)) :
    v.readCov (⟨Rect.unit (s := ⟨2, ![n, k]⟩) ![0, 0] ![n, k] inb', w⟩ :: L)
      (Rect.unit (s := ⟨2, ![n, k]⟩) ![0, 0] ![n, k] inb).toLoadRect = w :=
  View.readCov_full v inb inb' w L

/-- A load of some rows and columns of a matrix reads that window of what the view reads. -/
theorem readAt_rows (v : View sig κ sp ⟨2, ![n, k]⟩ e) (f : v.ty.Contents Val) {off : Fin 2 → ℕ} {r q : ℕ}
    (inb : ∀ a, off a + (![r, q] : Fin 2 → ℕ) a ≤ (⟨2, ![n, k]⟩ : Shape).size a) :
    v.readAt Val (Rect.unit (s := ⟨2, ![n, k]⟩) off ![r, q] inb).toLoadRect f
      = VecWindow.window (s := ⟨2, ![n, k]⟩) (v.read Val f) off ![r, q] inb := rfl

/-- The window of a whole matrix is the matrix. -/
theorem window_mat {α : Type} (x : (⟨2, ![n, k]⟩ : Shape).Idx → α)
    (inb : ∀ a, (![0, 0] : Fin 2 → ℕ) a + (![n, k] : Fin 2 → ℕ) a ≤ (⟨2, ![n, k]⟩ : Shape).size a) :
    VecWindow.window (s := ⟨2, ![n, k]⟩) x ![0, 0] ![n, k] inb = x := by
  funext y
  exact congrArg x (funext fun a => Fin.ext (by
    show (![0, 0] : Fin 2 → ℕ) a + 1 * (y a).val = (y a).val
    fin_cases a <;> simp))

/-- A matrix put over a whole matrix is the matrix put. -/
theorem put_mat {α : Type} (x w : (⟨2, ![n, k]⟩ : Shape).Idx → α) :
    VecWindow.put x ![0, 0] ![n, k] w = w := by
  funext y
  have h : ∀ a, (![0, 0] : Fin 2 → ℕ) a ≤ (y a).val ∧ (y a).val < (![0, 0] : Fin 2 → ℕ) a + (![n, k] : Fin 2 → ℕ) a := by
    intro a
    have := (y a).isLt
    fin_cases a
    · exact ⟨Nat.zero_le _, by simpa using this⟩
    · exact ⟨Nat.zero_le _, by simpa using this⟩
  refine (dif_pos h).trans (congrArg w (funext fun a => Fin.ext ?_))
  rw [Rect.unitLocal_val]
  fin_cases a <;> rfl

/-- A load of one cell of a three-element table is that cell of what the view reads. -/
theorem readAt_cell {F : FTy → Type} [FloatOps F] (v : View sig κ sp ⟨1, ![3]⟩ .f32) (f : v.ty.Contents (Elt F)) {j : ℕ}
    (inb : ∀ a, (![j] : Fin 1 → ℕ) a + (![1] : Fin 1 → ℕ) a ≤ (⟨1, ![3]⟩ : Shape).size a) (x : (⟨1, ![1]⟩ : Shape).Idx) :
    v.readAt (Elt F) (Rect.unit (s := ⟨1, ![3]⟩) ![j] ![1] inb).toLoadRect f x = cell (v.read (Elt F) f) ⟨j, inb 0⟩ := by
  refine congrArg (v.read (Elt F) f) (funext fun a => Fin.ext ?_)
  have h0 : (x 0).val = 0 := Nat.lt_one_iff.mp (x 0).isLt
  fin_cases a
  show j + 1 * (x 0).val = j
  omega

end Whole

/-- The first layer's scale table from the sums, the counts and the layer's parameters. -/
def tabA0 (s1 s2 : Vec F S16x128 .f32) (cnt : Vec F S16x1 .f32) (e : Vec F S3 .f32) (g : Vec F S1x128 .f32) : Vec F S16x128 .f32 :=
  k0_pay6 (k0_pay29 s1 s2 (k0_pay20 g) (k0_pay22 cnt)
    (k0_pay23 s1 cnt (cell e ⟨0, by decide⟩) (cell e ⟨1, by decide⟩) (cell e ⟨2, by decide⟩))
    (iota .tc S128x32 32 [0] iota_S128x32_d0_w32) 4#32 k0_pay24 0#32)

/-- The first layer's shift table. -/
def tabB0 (s1 s2 : Vec F S16x128 .f32) (cnt : Vec F S16x1 .f32) (e : Vec F S3 .f32) (g t : Vec F S1x128 .f32) : Vec F S16x128 .f32 :=
  k0_pay7 (k0_pay21 t) (k0_pay30 s1 s2 (k0_pay22 cnt)
    (k0_pay23 s1 cnt (cell e ⟨0, by decide⟩) (cell e ⟨1, by decide⟩) (cell e ⟨2, by decide⟩))
    (iota .tc S128x32 32 [0] iota_S128x32_d0_w32) 4#32 k0_pay24 0#32) (k0_pay31 (k0_pay20 g))

/-- The second layer's scale table. -/
def tabA1 (s1 s2 : Vec F S16x128 .f32) (cnt : Vec F S16x1 .f32) (e : Vec F S3 .f32) (g : Vec F S1x128 .f32) : Vec F S16x128 .f32 :=
  k0_pay11 (k0_pay45 s1 s2 (k0_pay36 g) (k0_pay38 cnt)
    (k0_pay39 s1 cnt (cell e ⟨0, by decide⟩) (cell e ⟨1, by decide⟩) (cell e ⟨2, by decide⟩))
    (iota .tc S128x32 32 [0] iota_S128x32_d0_w32) 4#32 k0_pay40 0#32)

/-- The second layer's shift table. -/
def tabB1 (s1 s2 : Vec F S16x128 .f32) (cnt : Vec F S16x1 .f32) (e : Vec F S3 .f32) (g t : Vec F S1x128 .f32) : Vec F S16x128 .f32 :=
  k0_pay12 (k0_pay37 t) (k0_pay46 s1 s2 (k0_pay38 cnt)
    (k0_pay39 s1 cnt (cell e ⟨0, by decide⟩) (cell e ⟨1, by decide⟩) (cell e ⟨2, by decide⟩))
    (iota .tc S128x32 32 [0] iota_S128x32_d0_w32) 4#32 k0_pay40 0#32) (k0_pay47 (k0_pay36 g))

/-- The second phase's first act: the first layer's tables made from the sums, and the sums set to zero. -/
def tabled0 (X : Ins F) (S : St F) : St F :=
  { S with
    a := tabA0 S.s1 S.s2 S.cnt X.e0 X.g0
    b := tabB0 S.s1 S.s2 S.cnt X.e0 X.g0 X.t0
    s1 := k0_pay8
    s2 := k0_pay9 }

/-- The second phase's point: the block normalised with the tables, put through the second layer and stored back,
and its sums added. -/
def phase1 (i : grid0.Coords) (h : cond4 i) (X : Ins F) (S : St F) : St F :=
  let u := VecWindow.window S.y (k0_off2 i) S4096x128.size (k0_off2_inb i h)
  { S with
    y := VecWindow.put S.y (k0_off2 i) S4096x128.size (k0_pay33 (k0_pay4 X.ids) u S.a S.b X.w1 X.b1)
    s1 := k0_pay35 (k0_pay4 X.ids) u S.a S.b X.w1 X.b1 S.s1
    s2 := k0_pay10 X.ids (k0_pay34 (k0_pay4 X.ids) u S.a S.b X.w1 X.b1) S.s2 }

/-- The third phase's first act: the second layer's tables made from the sums. -/
def tabled1 (X : Ins F) (S : St F) : St F :=
  { S with
    a := tabA1 S.s1 S.s2 S.cnt X.e1 X.g1
    b := tabB1 S.s1 S.s2 S.cnt X.e1 X.g1 X.t1 }

/-- The third phase's point: the output block from the resident block and the tables. -/
def phase2 (i : grid0.Coords) (h : cond6 i) (X : Ins F) (S : St F) : Vec F S4096x128 .f32 :=
  k0_pay13 X.ids (VecWindow.window S.y (k0_off3 i) S4096x128.size (k0_off3_inb i h)) S.a S.b

open Classical in
/-- The scratch after the body at a point. -/
def step (i : grid0.Coords) (X : Ins F) (S : St F) : St F :=
  let S := if cond1 i then zeroed S else S
  let S := if cond2 i then phase0 i X S else S
  let S := if cond3 i then tabled0 X S else S
  let S := if h : cond4 i then phase1 i h X S else S
  if cond5 i then tabled1 X S else S

open Classical in
/-- The output block after the body at a point. -/
def outStep (i : grid0.Coords) (X : Ins F) (S : St F) (o : Vec F S4096x128 .f32) : Vec F S4096x128 .f32 :=
  if h : cond6 i then phase2 i h X (step i X S) else o

/-- The six kinds of point a grid has. -/
def Case (i : grid0.Coords) : Prop :=
  (cond1 i ∧ cond2 i ∧ ¬ cond3 i ∧ ¬ cond4 i ∧ ¬ cond5 i ∧ ¬ cond6 i)
  ∨ (¬ cond1 i ∧ cond2 i ∧ ¬ cond3 i ∧ ¬ cond4 i ∧ ¬ cond5 i ∧ ¬ cond6 i)
  ∨ (¬ cond1 i ∧ ¬ cond2 i ∧ cond3 i ∧ cond4 i ∧ ¬ cond5 i ∧ ¬ cond6 i)
  ∨ (¬ cond1 i ∧ ¬ cond2 i ∧ ¬ cond3 i ∧ cond4 i ∧ ¬ cond5 i ∧ ¬ cond6 i)
  ∨ (¬ cond1 i ∧ ¬ cond2 i ∧ ¬ cond3 i ∧ ¬ cond4 i ∧ cond5 i ∧ cond6 i)
  ∨ (¬ cond1 i ∧ ¬ cond2 i ∧ ¬ cond3 i ∧ ¬ cond4 i ∧ ¬ cond5 i ∧ cond6 i)

section Cases
variable {i : grid0.Coords} (X : Ins F) (S : St F) (o : Vec F S4096x128 .f32)

/-- The step at the first point. -/
theorem step_first (h : cond1 i ∧ cond2 i ∧ ¬ cond3 i ∧ ¬ cond4 i ∧ ¬ cond5 i ∧ ¬ cond6 i) :
    step i X S = phase0 i X (zeroed S) ∧ outStep i X S o = o := by
  obtain ⟨h1, h2, h3, h4, h5, h6⟩ := h
  exact ⟨by unfold step; simp only [if_pos h1, if_pos h2, if_neg h3, dif_neg h4, if_neg h5], dif_neg h6⟩

/-- The step at another point of the first phase. -/
theorem step_phase0 (h : ¬ cond1 i ∧ cond2 i ∧ ¬ cond3 i ∧ ¬ cond4 i ∧ ¬ cond5 i ∧ ¬ cond6 i) :
    step i X S = phase0 i X S ∧ outStep i X S o = o := by
  obtain ⟨h1, h2, h3, h4, h5, h6⟩ := h
  exact ⟨by unfold step; simp only [if_neg h1, if_pos h2, if_neg h3, dif_neg h4, if_neg h5], dif_neg h6⟩

/-- The step at the first point of the second phase. -/
theorem step_tabled0 (h : ¬ cond1 i ∧ ¬ cond2 i ∧ cond3 i ∧ cond4 i ∧ ¬ cond5 i ∧ ¬ cond6 i) :
    step i X S = phase1 i h.2.2.2.1 X (tabled0 X S) ∧ outStep i X S o = o := by
  obtain ⟨h1, h2, h3, h4, h5, h6⟩ := h
  exact ⟨by unfold step; simp only [if_neg h1, if_neg h2, if_pos h3, dif_pos h4, if_neg h5], dif_neg h6⟩

/-- The step at another point of the second phase. -/
theorem step_phase1 (h : ¬ cond1 i ∧ ¬ cond2 i ∧ ¬ cond3 i ∧ cond4 i ∧ ¬ cond5 i ∧ ¬ cond6 i) :
    step i X S = phase1 i h.2.2.2.1 X S ∧ outStep i X S o = o := by
  obtain ⟨h1, h2, h3, h4, h5, h6⟩ := h
  exact ⟨by unfold step; simp only [if_neg h1, if_neg h2, if_neg h3, dif_pos h4, if_neg h5], dif_neg h6⟩

/-- The step at the first point of the third phase. -/
theorem step_tabled1 (h : ¬ cond1 i ∧ ¬ cond2 i ∧ ¬ cond3 i ∧ ¬ cond4 i ∧ cond5 i ∧ cond6 i) :
    step i X S = tabled1 X S ∧ outStep i X S o = phase2 i h.2.2.2.2.2 X (tabled1 X S) := by
  obtain ⟨h1, h2, h3, h4, h5, h6⟩ := h
  have e : step i X S = tabled1 X S := by unfold step; simp only [if_neg h1, if_neg h2, if_neg h3, dif_neg h4, if_pos h5]
  exact ⟨e, by unfold outStep; rw [dif_pos h6, e]⟩

/-- The step at another point of the third phase. -/
theorem step_phase2 (h : ¬ cond1 i ∧ ¬ cond2 i ∧ ¬ cond3 i ∧ ¬ cond4 i ∧ ¬ cond5 i ∧ cond6 i) :
    step i X S = S ∧ outStep i X S o = phase2 i h.2.2.2.2.2 X S := by
  obtain ⟨h1, h2, h3, h4, h5, h6⟩ := h
  have e : step i X S = S := by unfold step; simp only [if_neg h1, if_neg h2, if_neg h3, dif_neg h4, if_neg h5]
  exact ⟨e, by unfold outStep; rw [dif_pos h6, e]⟩

end Cases

end Cert.KernelIdeal.Track

end
-- ==== Proof.Track.lean ====
/- The run of the kernel's body at a grid point: it takes the scratch and the output block where the step says. -/
module

public import proofs.«01_k».proof.Proof.Gen.KernelIdeal.Skeleton
public import proofs.«01_k».proof.Proof.Gen.KernelIdeal.Frame
public import proofs.«01_k».proof.Proof.Step

@[expose] public section

set_option maxRecDepth 16384

noncomputable section

namespace Cert.KernelIdeal.Track

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- What the body's whole run at one grid point does: started with the twelve input blocks held at `X`, the output
block at `o` and the six scratch buffers at `S`, it ends with the inputs as they were, the output block at
`outStep i X S o` and the scratch at `step i X S`. -/
theorem body_run (c : Dev nD) (i : grid0.Coords) (arg1 : Memref sig .tc .vmem S4096x128 .f32) (harg1 : arg1.IsWhole) (arg2 : Memref sig .tc .vmem S4096x1 .i32) (harg2 : arg2.IsWhole) (arg3 : Memref sig .tc .vmem S128x128 .f32) (harg3 : arg3.IsWhole) (arg4 : Memref sig .tc .vmem S1x128 .f32) (harg4 : arg4.IsWhole) (arg5 : Memref sig .tc .smem S3 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .smem S3 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S4096x128 .f32) (harg13 : arg13.IsWhole) (arg14 : Memref sig .tc .vmem S65536x128 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x1 .f32) (harg17 : arg17.IsWhole) (arg18 : Memref sig .tc .vmem S16x128 .f32) (harg18 : arg18.IsWhole) (arg19 : Memref sig .tc .vmem S16x128 .f32) (harg19 : arg19.IsWhole)
    (X : Ins F) (o : Vec F S4096x128 .f32) (S : St F) (hcase : Case i) (E : Set ℕ) (K : PUnit → sProp 𝕄) :
    iprop(owns (c : Thread nD τ) arg1 fullShare X.x ∗ owns (c : Thread nD τ) arg2 fullShare X.ids ∗ owns (c : Thread nD τ) arg3 fullShare X.w0 ∗ owns (c : Thread nD τ) arg4 fullShare X.b0 ∗ owns (c : Thread nD τ) arg5 fullShare X.e0 ∗ owns (c : Thread nD τ) arg6 fullShare X.g0 ∗ owns (c : Thread nD τ) arg7 fullShare X.t0 ∗ owns (c : Thread nD τ) arg8 fullShare X.w1 ∗ owns (c : Thread nD τ) arg9 fullShare X.b1 ∗ owns (c : Thread nD τ) arg10 fullShare X.e1 ∗ owns (c : Thread nD τ) arg11 fullShare X.g1 ∗ owns (c : Thread nD τ) arg12 fullShare X.t1 ∗ owns (c : Thread nD τ) arg13 fullShare o ∗ owns (c : Thread nD τ) arg14 fullShare S.y ∗ owns (c : Thread nD τ) arg15 fullShare S.s1 ∗ owns (c : Thread nD τ) arg16 fullShare S.s2 ∗ owns (c : Thread nD τ) arg17 fullShare S.cnt ∗ owns (c : Thread nD τ) arg18 fullShare S.a ∗ owns (c : Thread nD τ) arg19 fullShare S.b
      ∗ (iprop(owns (c : Thread nD τ) arg1 fullShare X.x ∗ owns (c : Thread nD τ) arg2 fullShare X.ids ∗ owns (c : Thread nD τ) arg3 fullShare X.w0 ∗ owns (c : Thread nD τ) arg4 fullShare X.b0 ∗ owns (c : Thread nD τ) arg5 fullShare X.e0 ∗ owns (c : Thread nD τ) arg6 fullShare X.g0 ∗ owns (c : Thread nD τ) arg7 fullShare X.t0 ∗ owns (c : Thread nD τ) arg8 fullShare X.w1 ∗ owns (c : Thread nD τ) arg9 fullShare X.b1 ∗ owns (c : Thread nD τ) arg10 fullShare X.e1 ∗ owns (c : Thread nD τ) arg11 fullShare X.g1 ∗ owns (c : Thread nD τ) arg12 fullShare X.t1 ∗ owns (c : Thread nD τ) arg13 fullShare (outStep i X S o) ∗ owns (c : Thread nD τ) arg14 fullShare (step i X S).y ∗ owns (c : Thread nD τ) arg15 fullShare (step i X S).s1 ∗ owns (c : Thread nD τ) arg16 fullShare (step i X S).s2 ∗ owns (c : Thread nD τ) arg17 fullShare (step i X S).cnt ∗ owns (c : Thread nD τ) arg18 fullShare (step i X S).a ∗ owns (c : Thread nD τ) arg19 fullShare (step i X S).b) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_body_eq_skeleton]; unfold cc0__fused_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  rcases hcase with h | h | h | h | h | h
  all_goals
    first
    | rw [(step_first X S o h).1, (step_first X S o h).2]
    | rw [(step_phase0 X S o h).1, (step_phase0 X S o h).2]
    | rw [(step_tabled0 X S o h).1, (step_tabled0 X S o h).2]
    | rw [(step_phase1 X S o h).1, (step_phase1 X S o h).2]
    | rw [(step_tabled1 X S o h).1, (step_tabled1 X S o h).2]
    | rw [(step_phase2 X S o h).1, (step_phase2 X S o h).2]
    obtain ⟨hc0, hc1, hc2, hc3, hc4, hc5⟩ := h
  all_goals
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _
      isplitr
      swap
      · iexact H12
      · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])
    isplitl [H13]
    · iexists _
      isplitr
      swap
      · iexact H13
      · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])
    isplitl [H14]
    · iexists _
      isplitr
      swap
      · iexact H14
      · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])
    isplitl [H15]
    · iexists _
      isplitr
      swap
      · iexact H15
      · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])
    isplitl [H16]
    · iexists _
      isplitr
      swap
      · iexact H16
      · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])
    isplitl [H17]
    · iexists _
      isplitr
      swap
      · iexact H17
      · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])
    iexists _
    isplitr
    swap
    · iexact H18
    · ipureintro; first | (simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread]; done) | (sl_unfold_run_names; simp only [zeroed, phase0, tabled0, phase1, tabled1, phase2, tabA0, tabB0, tabA1, tabB1, View.read_writes_full, View.readAt_full, View.readCov_full, View.readAt_writes_full, View.read_writes_cons_put, readAt_mat, readCov_mat, readAt_rows, window_mat, readAt_cell, put_mat, View.readAt_unit, View.writes_nil, Memref.IsWhole.read_unread])

end Cert.KernelIdeal.Track

end
-- ==== Proof.Traj.lean ====
/- The contents of the scratch along the grid, from any contents it starts with: what the blocks of the resident
   activations, the sums and the tables hold at each point, and so what the output blocks are. -/
module

public import proofs.«01_k».proof.Proof.Step

@[expose] public section

set_option maxRecDepth 16384

noncomputable section

namespace Cert.KernelIdeal.Track

open Cert.KernelIdeal.Gen
open Idealize.ShloMosaic Idealize.ShloMosaic.TcCoe

variable {F : FTy → Type} [FloatOps F]

/-! ## The points -/

/-- Grid point `n`. -/
def pt (n : ℕ) : Fin grid0.N := ⟨n % 48, by rw [N_0]; exact Nat.mod_lt _ (by decide)⟩

/-- Grid point `n`'s coordinates. -/
abbrev crd (n : ℕ) : grid0.Coords := grid0.coords (pt n)

/-- The step of a small number has that number. -/
theorem pt_val {n : ℕ} (h : n < 48) : (pt n).val = n := Nat.mod_eq_of_lt h

/-- A step is the step of its number. -/
theorem pt_eq (t : Fin grid0.N) : pt t.val = t := Fin.ext (pt_val (lt_of_lt_of_eq t.isLt N_0))

/-- The scratch is zeroed at the first step only. -/
theorem cond1_iff : ∀ t : Fin grid0.N, cond1 (grid0.coords t) ↔ t.val = 0 := by decide +kernel
/-- The first phase is the first sixteen steps. -/
theorem cond2_iff : ∀ t : Fin grid0.N, cond2 (grid0.coords t) ↔ t.val < 16 := by decide +kernel
/-- The first tables are made at step 16 only. -/
theorem cond3_iff : ∀ t : Fin grid0.N, cond3 (grid0.coords t) ↔ t.val = 16 := by decide +kernel
/-- The second phase is steps 16 to 31. -/
theorem cond4_iff : ∀ t : Fin grid0.N, cond4 (grid0.coords t) ↔ (16 ≤ t.val ∧ t.val < 32) := by decide +kernel
/-- The second tables are made at step 32 only. -/
theorem cond5_iff : ∀ t : Fin grid0.N, cond5 (grid0.coords t) ↔ t.val = 32 := by decide +kernel
/-- The last phase is the steps from 32 on. -/
theorem cond6_iff : ∀ t : Fin grid0.N, cond6 (grid0.coords t) ↔ 32 ≤ t.val := by decide +kernel

/-- Every point is of one of the six kinds. -/
theorem case_all (t : Fin grid0.N) : Case (grid0.coords t) := by
  unfold Case
  rw [cond1_iff, cond2_iff, cond3_iff, cond4_iff, cond5_iff, cond6_iff]
  have := lt_of_lt_of_eq t.isLt N_0
  omega

/-- The rows the first phase stores. -/
theorem off1_eq : ∀ t : Fin grid0.N, k0_off1 (grid0.coords t) = ![4096 * t.val, 0] := by decide +kernel
/-- The rows the second phase reads and stores. -/
theorem off2_eq : ∀ t : Fin grid0.N, 16 ≤ t.val → k0_off2 (grid0.coords t) = ![4096 * (t.val - 16), 0] := by decide +kernel
/-- The rows the last phase reads. -/
theorem off3_eq : ∀ t : Fin grid0.N, 32 ≤ t.val → k0_off3 (grid0.coords t) = ![4096 * (t.val - 32), 0] := by decide +kernel

/-! ## The blocks of the resident activations -/

/-- A block of rows lies within the buffer. -/
theorem blk_inb (j : Fin 16) : ∀ a, (![4096 * j.val, 0] : Fin 2 → ℕ) a + S4096x128.size a ≤ S65536x128.size a := by
  have := j.isLt
  intro a
  fin_cases a
  · show 4096 * j.val + 4096 ≤ 65536
    omega
  · exact Nat.le_refl 128

/-- Windows at equal places are equal. -/
theorem window_congr (y : Vec F S65536x128 .f32) {o o' : Fin 2 → ℕ} (h : o = o')
    (hi : ∀ a, o a + S4096x128.size a ≤ S65536x128.size a) (hi' : ∀ a, o' a + S4096x128.size a ≤ S65536x128.size a) :
    VecWindow.window y o S4096x128.size hi = VecWindow.window y o' S4096x128.size hi' := by
  subst h; rfl

/-- Block `j` of the resident activations. -/
def blk (y : Vec F S65536x128 .f32) (j : Fin 16) : Vec F S4096x128 .f32 :=
  VecWindow.window y ![4096 * j.val, 0] S4096x128.size (blk_inb j)

/-- The resident activations with block `j` replaced. -/
def setBlk (y : Vec F S65536x128 .f32) (j : Fin 16) (w : Vec F S4096x128 .f32) : Vec F S65536x128 .f32 :=
  VecWindow.put y ![4096 * j.val, 0] S4096x128.size w

/-- A block of a buffer with one block replaced. -/
theorem blk_setBlk (y : Vec F S65536x128 .f32) (j k : Fin 16) (w : Vec F S4096x128 .f32) :
    blk (setBlk y j w) k = if k = j then w else blk y k := by
  by_cases h : k = j
  · subst h
    rw [if_pos rfl]
    exact VecWindow.window_put_same y _ _ (blk_inb k) w
  · rw [if_neg h]
    refine VecWindow.window_put_of_disjoint y _ _ _ _ (blk_inb k) w 0 ?_
    have : k.val ≠ j.val := fun e => h (Fin.ext e)
    show 4096 * k.val + 4096 ≤ 4096 * j.val ∨ 4096 * j.val + 4096 ≤ 4096 * k.val
    omega

/-! ## What the scratch holds, point by point -/

variable (X : ℕ → Ins F)

/-- The first layer's block `j`. -/
def y1 (j : ℕ) : Vec F S4096x128 .f32 := k0_pay15 (X j).x (X j).w0 (X j).b0

/-- The running sums and counts of the first layer over the blocks before `n`. -/
def sums0 : ℕ → Vec F S16x128 .f32 × Vec F S16x128 .f32 × Vec F S16x1 .f32
  | 0 => (k0_pay1, k0_pay2, k0_pay3)
  | n + 1 => (k0_pay17 (k0_pay4 (X n).ids) (X n).x (X n).w0 (X n).b0 (sums0 n).1,
      k0_pay18 (k0_pay4 (X n).ids) (X n).x (X n).w0 (X n).b0 (sums0 n).2.1,
      k0_pay5 (k0_pay19 (k0_pay4 (X n).ids) (sums0 n).2.2))

/-- The first layer's tables. -/
def A0 : Vec F S16x128 .f32 := tabA0 (sums0 X 16).1 (sums0 X 16).2.1 (sums0 X 16).2.2 (X 16).e0 (X 16).g0
@[inherit_doc A0] def B0 : Vec F S16x128 .f32 :=
  tabB0 (sums0 X 16).1 (sums0 X 16).2.1 (sums0 X 16).2.2 (X 16).e0 (X 16).g0 (X 16).t0

/-- The second layer's block `j`. -/
def y2 (j : ℕ) : Vec F S4096x128 .f32 :=
  k0_pay33 (k0_pay4 (X (j + 16)).ids) (y1 X j) (A0 X) (B0 X) (X (j + 16)).w1 (X (j + 16)).b1

/-- The running sums of the second layer over the blocks before `n`. -/
def sums1 : ℕ → Vec F S16x128 .f32 × Vec F S16x128 .f32
  | 0 => (k0_pay8, k0_pay9)
  | n + 1 => (k0_pay35 (k0_pay4 (X (n + 16)).ids) (y1 X n) (A0 X) (B0 X) (X (n + 16)).w1 (X (n + 16)).b1 (sums1 n).1,
      k0_pay10 (X (n + 16)).ids (k0_pay34 (k0_pay4 (X (n + 16)).ids) (y1 X n) (A0 X) (B0 X) (X (n + 16)).w1 (X (n + 16)).b1)
        (sums1 n).2)

/-- The second layer's tables. -/
def A1 : Vec F S16x128 .f32 := tabA1 (sums1 X 16).1 (sums1 X 16).2 (sums0 X 16).2.2 (X 32).e1 (X 32).g1
@[inherit_doc A1] def B1 : Vec F S16x128 .f32 :=
  tabB1 (sums1 X 16).1 (sums1 X 16).2 (sums0 X 16).2.2 (X 32).e1 (X 32).g1 (X 32).t1

/-- The output's block `j`. -/
def outBlk (j : ℕ) : Vec F S4096x128 .f32 := k0_pay13 (X (j + 32)).ids (y2 X j) (A1 X) (B1 X)

/-- The scratch before point `n`, started at `S0`. -/
def traj (S0 : St F) : ℕ → St F
  | 0 => S0
  | n + 1 => step (crd n) (X n) (traj S0 n)

/-- Before point `n` of the first phase's: the blocks done and the sums. -/
structure Inv0 (n : ℕ) (S : St F) : Prop where
  y : ∀ j : Fin 16, j.val < n → blk S.y j = y1 X j
  s1 : S.s1 = (sums0 X n).1
  s2 : S.s2 = (sums0 X n).2.1
  cnt : S.cnt = (sums0 X n).2.2

/-- Before the second phase's point `n`: the blocks done are the second layer's, the others the first's. -/
structure Inv1 (n : ℕ) (S : St F) : Prop where
  y : ∀ j : Fin 16, j.val < n → blk S.y j = y2 X j
  y' : ∀ j : Fin 16, n ≤ j.val → blk S.y j = y1 X j
  s1 : S.s1 = (sums1 X n).1
  s2 : S.s2 = (sums1 X n).2
  cnt : S.cnt = (sums0 X 16).2.2
  a : S.a = A0 X
  b : S.b = B0 X

/-- In the third phase: all blocks the second layer's, and its tables. -/
structure Inv2 (S : St F) : Prop where
  y : ∀ j : Fin 16, blk S.y j = y2 X j
  a : S.a = A1 X
  b : S.b = B1 X

/-- A step of the first phase keeps its invariant. -/
theorem phase0_inv {n : ℕ} (hn : n < 16) {S : St F} (h : Inv0 X n S) : Inv0 X (n + 1) (phase0 (crd n) (X n) S) := by
  have e : VecWindow.put S.y (k0_off1 (crd n)) S4096x128.size (y1 X n) = setBlk S.y ⟨n, hn⟩ (y1 X n) := by
    unfold setBlk
    rw [off1_eq, pt_val (by omega)]
  refine ⟨fun j hj => ?_, ?_, ?_, ?_⟩
  · show blk (VecWindow.put S.y (k0_off1 (crd n)) S4096x128.size (y1 X n)) j = _
    rw [e, blk_setBlk]
    by_cases hjn : j = ⟨n, hn⟩
    · rw [if_pos hjn, hjn]
    · rw [if_neg hjn]
      exact h.y j (by have : j.val ≠ n := fun e => hjn (Fin.ext e); omega)
  · show k0_pay17 _ _ _ _ S.s1 = _
    rw [h.s1]; rfl
  · show k0_pay18 _ _ _ _ S.s2 = _
    rw [h.s2]; rfl
  · show k0_pay5 (k0_pay19 _ S.cnt) = _
    rw [h.cnt]; rfl

/-- A step of the second phase keeps its invariant. -/
theorem phase1_inv {n : ℕ} (hn : n < 16) {S : St F} (h : Inv1 X n S) (hc : cond4 (crd (n + 16))) :
    Inv1 X (n + 1) (phase1 (crd (n + 16)) hc (X (n + 16)) S) := by
  have hv : (pt (n + 16)).val = n + 16 := pt_val (by omega)
  have hoff : k0_off2 (crd (n + 16)) = ![4096 * n, 0] := by
    rw [off2_eq _ (by rw [hv]; omega), hv, Nat.add_sub_cancel]
  have hu : VecWindow.window S.y (k0_off2 (crd (n + 16))) S4096x128.size (k0_off2_inb _ hc) = y1 X n := by
    exact (window_congr S.y hoff _ (blk_inb ⟨n, hn⟩)).trans (h.y' ⟨n, hn⟩ (Nat.le_refl n))
  have e : ∀ w, VecWindow.put S.y (k0_off2 (crd (n + 16))) S4096x128.size w = setBlk S.y ⟨n, hn⟩ w := by
    intro w
    unfold setBlk
    rw [hoff]
  unfold phase1
  simp only [hu, e, h.a, h.b, h.s1, h.s2, h.cnt]
  refine ⟨fun j hj => ?_, fun j hj => ?_, rfl, rfl, rfl, rfl, rfl⟩
  · show blk (setBlk S.y ⟨n, hn⟩ (y2 X n)) j = _
    rw [blk_setBlk]
    by_cases hjn : j = ⟨n, hn⟩
    · rw [if_pos hjn, hjn]
    · rw [if_neg hjn]
      exact h.y j (by have : j.val ≠ n := fun e => hjn (Fin.ext e); omega)
  · show blk (setBlk S.y ⟨n, hn⟩ (y2 X n)) j = _
    rw [blk_setBlk, if_neg (fun e => by rw [e] at hj; exact absurd hj (by simp))]
    exact h.y' j (by omega)

variable (S0 : St F)

/-- The first phase's invariant holds after each of its steps. -/
theorem inv0 : ∀ n : ℕ, n < 16 → Inv0 X (n + 1) (traj X S0 (n + 1))
  | 0, _ => by
    show Inv0 X 1 (step (crd 0) (X 0) S0)
    rw [(step_first (X 0) S0 (y1 X 0) (by
      rw [cond1_iff, cond2_iff, cond3_iff, cond4_iff, cond5_iff, cond6_iff, pt_val (by decide)]; omega)).1]
    exact phase0_inv X (by decide) ⟨fun j hj => absurd hj (Nat.not_lt_zero _), rfl, rfl, rfl⟩
  | n + 1, hn => by
    show Inv0 X (n + 2) (step (crd (n + 1)) (X (n + 1)) (traj X S0 (n + 1)))
    rw [(step_phase0 (X (n + 1)) _ (y1 X 0) (by
      rw [cond1_iff, cond2_iff, cond3_iff, cond4_iff, cond5_iff, cond6_iff, pt_val (by omega)]; omega)).1]
    exact phase0_inv X hn (inv0 n (by omega))

/-- The second phase's invariant holds after each of its steps. -/
theorem inv1 : ∀ n : ℕ, n < 16 → Inv1 X (n + 1) (traj X S0 (n + 16 + 1))
  | 0, _ => by
    have h := inv0 X S0 15 (by decide)
    show Inv1 X 1 (step (crd 16) (X 16) (traj X S0 16))
    rw [(step_tabled0 (X 16) _ (y1 X 0) (by
      rw [cond1_iff, cond2_iff, cond3_iff, cond4_iff, cond5_iff, cond6_iff, pt_val (by decide)]; omega)).1]
    refine phase1_inv X (n := 0) (S := tabled0 (X 16) (traj X S0 16)) (by decide) ⟨fun j hj => absurd hj (Nat.not_lt_zero _), fun j _ => h.y j j.isLt, rfl, rfl, h.cnt, ?_, ?_⟩ _
    · show tabA0 _ _ _ _ _ = _
      rw [h.s1, h.s2, h.cnt]; rfl
    · show tabB0 _ _ _ _ _ _ = _
      rw [h.s1, h.s2, h.cnt]; rfl
  | n + 1, hn => by
    show Inv1 X (n + 2) (step (crd (n + 1 + 16)) (X (n + 1 + 16)) (traj X S0 (n + 1 + 16)))
    rw [(step_phase1 (X (n + 1 + 16)) _ (y1 X 0) (by
      rw [cond1_iff, cond2_iff, cond3_iff, cond4_iff, cond5_iff, cond6_iff, pt_val (by omega)]; omega)).1]
    refine phase1_inv X hn ?_ _
    rw [show n + 1 + 16 = n + 16 + 1 by omega]
    exact inv1 n (by omega)

/-- The last phase leaves what the second left. -/
theorem inv2 : ∀ n : ℕ, n < 16 → Inv2 X (traj X S0 (n + 32 + 1))
  | 0, _ => by
    have h := inv1 X S0 15 (by decide)
    show Inv2 X (step (crd 32) (X 32) (traj X S0 32))
    rw [(step_tabled1 (X 32) _ (y1 X 0) (by
      rw [cond1_iff, cond2_iff, cond3_iff, cond4_iff, cond5_iff, cond6_iff, pt_val (by decide)]; omega)).1]
    refine ⟨fun j => h.y j j.isLt, ?_, ?_⟩
    · show tabA1 _ _ _ _ _ = _
      rw [h.s1, h.s2, h.cnt]; rfl
    · show tabB1 _ _ _ _ _ _ = _
      rw [h.s1, h.s2, h.cnt]; rfl
  | n + 1, hn => by
    show Inv2 X (step (crd (n + 1 + 32)) (X (n + 1 + 32)) (traj X S0 (n + 1 + 32)))
    rw [(step_phase2 (X (n + 1 + 32)) _ (y1 X 0) (by
      rw [cond1_iff, cond2_iff, cond3_iff, cond4_iff, cond5_iff, cond6_iff, pt_val (by omega)]; omega)).1]
    rw [show n + 1 + 32 = n + 32 + 1 by omega]
    exact inv2 n (by omega)

/-- Whatever the scratch started with, the third phase's point `n` leaves the output's block `n`. -/
theorem outStep_eq {n : ℕ} (hn : n < 16) (o : Vec F S4096x128 .f32) :
    outStep (crd (n + 32)) (X (n + 32)) (traj X S0 (n + 32)) o = outBlk X n := by
  have hv : (pt (n + 32)).val = n + 32 := pt_val (by omega)
  have hc : cond6 (crd (n + 32)) := by rw [cond6_iff, hv]; omega
  have h := inv2 X S0 n hn
  unfold outStep
  rw [dif_pos hc]
  have hstep : step (crd (n + 32)) (X (n + 32)) (traj X S0 (n + 32)) = traj X S0 (n + 32 + 1) := rfl
  rw [hstep]
  unfold phase2
  have hu : VecWindow.window (traj X S0 (n + 32 + 1)).y (k0_off3 (crd (n + 32))) S4096x128.size (k0_off3_inb _ hc) = y2 X n := by
    have hoff : k0_off3 (crd (n + 32)) = ![4096 * n, 0] := by
      rw [off3_eq _ (by rw [hv]; omega), hv, Nat.add_sub_cancel]
    exact (window_congr _ hoff _ (blk_inb ⟨n, hn⟩)).trans (h.y ⟨n, hn⟩)
  rw [hu, h.a, h.b]
  rfl

end Cert.KernelIdeal.Track

end
-- ==== Proof.Body.lean ====
/- The kernel's frame: every point's body keeps the invariant that the scratch is on the step's trajectory, so
   every run ends, the arguments unchanged and the output's blocks where the trajectory leaves them. -/
module

public import proofs.«01_k».proof.Proof.Track
public import proofs.«01_k».proof.Proof.Traj
public import Idealize.ShloMosaic.Lib.Claim
public import proofs.«01_k».proof.Defs

@[expose] public section

set_option maxRecDepth 16384

noncomputable section

namespace Cert.KernelIdeal.Track

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' blocks at point `n`. -/
def ins (c : Dev nD) (n : ℕ) : Ins F := ⟨iblk m c 0 (pt n), iblk m c 1 (pt n), iblk m c 2 (pt n), iblk m c 3 (pt n), iblk m c 4 (pt n), iblk m c 5 (pt n), iblk m c 6 (pt n), iblk m c 7 (pt n), iblk m c 8 (pt n), iblk m c 9 (pt n), iblk m c 10 (pt n), iblk m c 11 (pt n)⟩

/-- The inputs' blocks at the grid's point `t`. -/
abbrev insAt (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩
/-- The inputs at a step of the grid are the inputs at its number. -/
theorem insAt_eq (c : Dev nD) (t : Fin cfg0.N) : ins m c t.val = insAt m c t := by unfold ins; rw [pt_eq]

/-- The six scratch buffers held at `S`. -/
def scratchAt (c : Dev nD) (S : St F) : sProp 𝕄 :=
  iprop(owns (c : Thread nD τ) (Memref.whole cc0_scratch0) fullShare S.y ∗ owns (c : Thread nD τ) (Memref.whole cc0_scratch1) fullShare S.s1 ∗ owns (c : Thread nD τ) (Memref.whole cc0_scratch2) fullShare S.s2 ∗ owns (c : Thread nD τ) (Memref.whole cc0_scratch3) fullShare S.cnt ∗ owns (c : Thread nD τ) (Memref.whole cc0_scratch4) fullShare S.a ∗ owns (c : Thread nD τ) (Memref.whole cc0_scratch5) fullShare S.b)

/-- What the launch hands the region, the scratch buffers named. -/
theorem launchInv_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]

/-- The invariant before point `n`: for some starting contents the scratch holds the trajectory's contents. -/
def inv (c : Dev nD) (n : ℕ) : sProp 𝕄 :=
  iprop((∃ S0 : St F, scratchAt c (traj (ins m c) S0 n)) ∗ (∃ r, prngReg c r))

/-- The six scratch buffers, owned whole with any contents, are owned at some state. -/
theorem scratchAt_intro (c : Dev nD) : (iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) : sProp 𝕄) ⊢ iprop(∃ S0 : St F, scratchAt c S0) := by
  unfold scratchAt
  iintro ⟨⟨%d0, H0⟩, ⟨%d1, H1⟩, ⟨%d2, H2⟩, ⟨%d3, H3⟩, ⟨%d4, H4⟩, ⟨%d5, H5⟩⟩
  iexists (⟨d0, d1, d2, d3, d4, d5⟩ : St F)
  isplitl [H0]; · iexact H0
  isplitl [H1]; · iexact H1
  isplitl [H2]; · iexact H2
  isplitl [H3]; · iexact H3
  isplitl [H4]; · iexact H4
  iexact H5

/-- Scratch owned at a state is scratch owned with some contents. -/
theorem scratchAt_forget (c : Dev nD) (S : St F) : (scratchAt c S : sProp 𝕄) ⊢ iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) := by
  unfold scratchAt
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The pipeline's proof data: the arrays as the region finds them, each input's buffer left at its block, the output's at
the trajectory's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlk (ins m c) (t.val - 32)
  Φ t := inv m c t.val
  q _ := fullShare
  owed _ := 0

/-- Each array begins with what it holds at the region's entry. -/
theorem A_eq (c : Dev nD) (w : Fin cfg0.W) : (dats m 0 c).A w = V m c (Pipeline.arrRef spec0 w) := by
  dsimp only [dats]

/-- What the body leaves in the block of the features. -/
theorem after_0 (c : Dev nD) (t : Fin cfg0.N) : (dats m 0 c).after 0 t = iblk m c 0 t := by dsimp only [dats]
/-- What the body leaves in the block of the instance numbers. -/
theorem after_1 (c : Dev nD) (t : Fin cfg0.N) : (dats m 0 c).after 1 t = iblk m c 1 t := by dsimp only [dats]
/-- What the body leaves in the block of the first weights. -/
theorem after_2 (c : Dev nD) (t : Fin cfg0.N) : (dats m 0 c).after 2 t = iblk m c 2 t := by dsimp only [dats]
/-- What the body leaves in the block of the first bias. -/
theorem after_3 (c : Dev nD) (t : Fin cfg0.N) : (dats m 0 c).after 3 t = iblk m c 3 t := by dsimp only [dats]
/-- What the body leaves in the block of the first attention weights. -/
theorem after_4 (c : Dev nD) (t : Fin cfg0.N) : (dats m 0 c).after 4 t = iblk m c 4 t := by dsimp only [dats]
/-- What the body leaves in the block of the first scale. -/
theorem after_5 (c : Dev nD) (t : Fin cfg0.N) : (dats m 0 c).after 5 t = iblk m c 5 t := by dsimp only [dats]
/-- What the body leaves in the block of the first shift. -/
theorem after_6 (c : Dev nD) (t : Fin cfg0.N) : (dats m 0 c).after 6 t = iblk m c 6 t := by dsimp only [dats]
/-- What the body leaves in the block of the second weights. -/
theorem after_7 (c : Dev nD) (t : Fin cfg0.N) : (dats m 0 c).after 7 t = iblk m c 7 t := by dsimp only [dats]
/-- What the body leaves in the block of the second bias. -/
theorem after_8 (c : Dev nD) (t : Fin cfg0.N) : (dats m 0 c).after 8 t = iblk m c 8 t := by dsimp only [dats]
/-- What the body leaves in the block of the second attention weights. -/
theorem after_9 (c : Dev nD) (t : Fin cfg0.N) : (dats m 0 c).after 9 t = iblk m c 9 t := by dsimp only [dats]
/-- What the body leaves in the block of the second scale. -/
theorem after_10 (c : Dev nD) (t : Fin cfg0.N) : (dats m 0 c).after 10 t = iblk m c 10 t := by dsimp only [dats]
/-- What the body leaves in the block of the second shift. -/
theorem after_11 (c : Dev nD) (t : Fin cfg0.N) : (dats m 0 c).after 11 t = iblk m c 11 t := by dsimp only [dats]
/-- What the body leaves in the block of the output. -/
theorem after_12 (c : Dev nD) (t : Fin cfg0.N) : (dats m 0 c).after 12 t = outBlk (ins m c) (t.val - 32) := by dsimp only [dats]

/-- What the body finds in the block of the features. -/
theorem before_0 (c : Dev nD) (t : Fin cfg0.N) (d) : (dats m 0 c).before 0 t d = iblk m c 0 t :=
  before0_0_of m (dats m 0 c) (A_eq m c 0) (after_0 m c) t d
/-- What the body finds in the block of the instance numbers. -/
theorem before_1 (c : Dev nD) (t : Fin cfg0.N) (d) : (dats m 0 c).before 1 t d = iblk m c 1 t :=
  before0_1_of m (dats m 0 c) (A_eq m c 1) (after_1 m c) t d
/-- What the body finds in the block of the first weights. -/
theorem before_2 (c : Dev nD) (t : Fin cfg0.N) (d) : (dats m 0 c).before 2 t d = iblk m c 2 t :=
  before0_2_of m (dats m 0 c) (A_eq m c 2) (after_2 m c) t d
/-- What the body finds in the block of the first bias. -/
theorem before_3 (c : Dev nD) (t : Fin cfg0.N) (d) : (dats m 0 c).before 3 t d = iblk m c 3 t :=
  before0_3_of m (dats m 0 c) (A_eq m c 3) (after_3 m c) t d
/-- What the body finds in the block of the first attention weights. -/
theorem before_4 (c : Dev nD) (t : Fin cfg0.N) (d) : (dats m 0 c).before 4 t d = iblk m c 4 t :=
  before0_4_of m (dats m 0 c) (A_eq m c 4) (after_4 m c) t d
/-- What the body finds in the block of the first scale. -/
theorem before_5 (c : Dev nD) (t : Fin cfg0.N) (d) : (dats m 0 c).before 5 t d = iblk m c 5 t :=
  before0_5_of m (dats m 0 c) (A_eq m c 5) (after_5 m c) t d
/-- What the body finds in the block of the first shift. -/
theorem before_6 (c : Dev nD) (t : Fin cfg0.N) (d) : (dats m 0 c).before 6 t d = iblk m c 6 t :=
  before0_6_of m (dats m 0 c) (A_eq m c 6) (after_6 m c) t d
/-- What the body finds in the block of the second weights. -/
theorem before_7 (c : Dev nD) (t : Fin cfg0.N) (d) : (dats m 0 c).before 7 t d = iblk m c 7 t :=
  before0_7_of m (dats m 0 c) (A_eq m c 7) (after_7 m c) t d
/-- What the body finds in the block of the second bias. -/
theorem before_8 (c : Dev nD) (t : Fin cfg0.N) (d) : (dats m 0 c).before 8 t d = iblk m c 8 t :=
  before0_8_of m (dats m 0 c) (A_eq m c 8) (after_8 m c) t d
/-- What the body finds in the block of the second attention weights. -/
theorem before_9 (c : Dev nD) (t : Fin cfg0.N) (d) : (dats m 0 c).before 9 t d = iblk m c 9 t :=
  before0_9_of m (dats m 0 c) (A_eq m c 9) (after_9 m c) t d
/-- What the body finds in the block of the second scale. -/
theorem before_10 (c : Dev nD) (t : Fin cfg0.N) (d) : (dats m 0 c).before 10 t d = iblk m c 10 t :=
  before0_10_of m (dats m 0 c) (A_eq m c 10) (after_10 m c) t d
/-- What the body finds in the block of the second shift. -/
theorem before_11 (c : Dev nD) (t : Fin cfg0.N) (d) : (dats m 0 c).before 11 t d = iblk m c 11 t :=
  before0_11_of m (dats m 0 c) (A_eq m c 11) (after_11 m c) t d

/-- The staging buffer window `w` is on at point `t`. -/
abbrev ms (w : Fin cfg0.W) (t : Fin cfg0.N) := (cfg0.win w).stage (cfg0.slots t w)

/-- A window in use at a point leaves what the data say. -/
theorem leaves_live (c : Dev nD) (w : Fin cfg0.W) (t : Fin cfg0.N) (h : cfg0.idle w (grid0.coords t) = false) :
    (dats m 0 c).leavesExact w t = owns (c : Thread nD τ) (ms w t) fullShare ((dats m 0 c).after w t) := by
  unfold Dat.leavesExact; rw [h]

/-- The output block goes untouched in the first two phases only. -/
theorem idle_12 : ∀ t : Fin cfg0.N, cfg0.idle 12 (grid0.coords t) = true ↔ t.val < 32 :=
  (by decide +kernel : ∀ t : Fin grid0.N, cfg0.idle 12 (grid0.coords t) = true ↔ t.val < 32)
/-- No output block is written back in the first two phases. -/
theorem noFlush_12 : ∀ t : Fin cfg0.N, t.val < 32 → (cfg0.win 12).flush t = false :=
  (by decide +kernel : ∀ t : Fin grid0.N, t.val < 32 → win0_12.flush t = false)

/-- The output's buffer after the body is what the pipeline is to find there. -/
theorem leaves_12 (c : Dev nD) (t : Fin cfg0.N) (S0 : St F) (d) :
    (owns (c : Thread nD τ) (ms 12 t) fullShare (outStep (grid0.coords t) (insAt m c t) (traj (ins m c) S0 t.val) ((dats m 0 c).before 12 t d)) : sProp 𝕄)
      ⊢ (dats m 0 c).leavesExact 12 t := by
  rw [← insAt_eq]
  by_cases h : t.val < 32
  · rw [Dat.leavesExact_idle (dats m 0 c) 12 t ((idle_12 t).mpr h) (noFlush_12 t h)]
    have hc : ¬ cond6 (grid0.coords t) := by rw [cond6_iff]; omega
    unfold outStep
    rw [dif_neg hc]
    iintro H; iexists d; iexact H
  · rw [leaves_live m c 12 t (by rw [← Bool.not_eq_true, idle_12]; exact h), after_12]
    have hN : t.val < 48 := lt_of_lt_of_eq t.isLt N_0
    obtain ⟨n, hn⟩ : ∃ n, t.val = n + 32 := ⟨t.val - 32, by omega⟩
    have ht : t = pt (n + 32) := Fin.ext (by rw [pt_val (by omega), hn])
    have e := outStep_eq (ins m c) S0 (n := n) (by omega) ((dats m 0 c).before 12 t d)
    rw [hn, Nat.add_sub_cancel, ← e, show crd (n + 32) = grid0.coords t from by rw [ht]]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d))
    ∗ (∃ d, owns (c : Thread nD τ) (ms 7 t) fullShare ((dats m 0 c).before 7 t d))
    ∗ (∃ d, owns (c : Thread nD τ) (ms 8 t) fullShare ((dats m 0 c).before 8 t d))
    ∗ (∃ d, owns (c : Thread nD τ) (ms 9 t) fullShare ((dats m 0 c).before 9 t d))
    ∗ (∃ d, owns (c : Thread nD τ) (ms 10 t) fullShare ((dats m 0 c).before 10 t d))
    ∗ (∃ d, owns (c : Thread nD τ) (ms 11 t) fullShare ((dats m 0 c).before 11 t d))
    ∗ (∃ d, owns (c : Thread nD τ) (ms 12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
/-- The body at any point keeps the invariant and leaves the windows as the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [show (dats m 0 c).leavesExact 0 t = owns (c : Thread nD τ) (ms 0 t) fullShare (iblk m c 0 t) from
    (leaves_live m c 0 t rfl).trans (by rw [after_0])]
  rw [show (dats m 0 c).leavesExact 1 t = owns (c : Thread nD τ) (ms 1 t) fullShare (iblk m c 1 t) from
    (leaves_live m c 1 t rfl).trans (by rw [after_1])]
  rw [show (dats m 0 c).leavesExact 2 t = owns (c : Thread nD τ) (ms 2 t) fullShare (iblk m c 2 t) from
    (leaves_live m c 2 t rfl).trans (by rw [after_2])]
  rw [show (dats m 0 c).leavesExact 3 t = owns (c : Thread nD τ) (ms 3 t) fullShare (iblk m c 3 t) from
    (leaves_live m c 3 t rfl).trans (by rw [after_3])]
  rw [show (dats m 0 c).leavesExact 4 t = owns (c : Thread nD τ) (ms 4 t) fullShare (iblk m c 4 t) from
    (leaves_live m c 4 t rfl).trans (by rw [after_4])]
  rw [show (dats m 0 c).leavesExact 5 t = owns (c : Thread nD τ) (ms 5 t) fullShare (iblk m c 5 t) from
    (leaves_live m c 5 t rfl).trans (by rw [after_5])]
  rw [show (dats m 0 c).leavesExact 6 t = owns (c : Thread nD τ) (ms 6 t) fullShare (iblk m c 6 t) from
    (leaves_live m c 6 t rfl).trans (by rw [after_6])]
  rw [show (dats m 0 c).leavesExact 7 t = owns (c : Thread nD τ) (ms 7 t) fullShare (iblk m c 7 t) from
    (leaves_live m c 7 t rfl).trans (by rw [after_7])]
  rw [show (dats m 0 c).leavesExact 8 t = owns (c : Thread nD τ) (ms 8 t) fullShare (iblk m c 8 t) from
    (leaves_live m c 8 t rfl).trans (by rw [after_8])]
  rw [show (dats m 0 c).leavesExact 9 t = owns (c : Thread nD τ) (ms 9 t) fullShare (iblk m c 9 t) from
    (leaves_live m c 9 t rfl).trans (by rw [after_9])]
  rw [show (dats m 0 c).leavesExact 10 t = owns (c : Thread nD τ) (ms 10 t) fullShare (iblk m c 10 t) from
    (leaves_live m c 10 t rfl).trans (by rw [after_10])]
  rw [show (dats m 0 c).leavesExact 11 t = owns (c : Thread nD τ) (ms 11 t) fullShare (iblk m c 11 t) from
    (leaves_live m c 11 t rfl).trans (by rw [after_11])]
  have hstep : ∀ S0 : St F, traj (ins m c) S0 (t.val + 1) = step (grid0.coords t) (insAt m c t) (traj (ins m c) S0 t.val) := by
    intro S0
    rw [← insAt_eq]
    show step (crd t.val) _ _ = _
    rw [show crd t.val = grid0.coords t from by rw [crd, pt_eq]]
  unfold inv
  iintro ⟨⟨⟨%S0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  unfold scratchAt
  icases HS with ⟨HS0, HS1, HS2, HS3, HS4, HS5⟩
  iapply (body_run c (grid0.coords t) _ _ _ _ _ _ _ _ _ _ _ _ _ _ _ _ _ _ _ _ _ _ _ _ _ _ _ _ _ _ _ _ _ _ _ _ _ _ (insAt m c t) ((dats m 0 c).before 12 t d12) (traj (ins m c) S0 t.val) (case_all t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  rw [← hstep]
  iintro ⟨H0, H1, H2, H3, H4, H5, H6, H7, H8, H9, H10, H11, H12, HS0, HS1, HS2, HS3, HS4, HS5⟩
  isplitl [HS0 HS1 HS2 HS3 HS4 HS5 Hg]
  · isplitl [HS0 HS1 HS2 HS3 HS4 HS5]
    · iexists S0
      isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (leaves_12 m c t S0 d12)
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body, run at any step from the state the trajectory gives, leaves the next one. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch at the launch holds some first state. -/
theorem hin (c : Dev nD) : Pipeline.ΦA spec0 c ⊢ (dats m 0 c).Φ 0 := by
  rw [show (dats m 0 c).Φ 0 = inv m c 0 from rfl, launchInv_eq]
  unfold inv
  iintro ⟨HS, Hg⟩
  isplitl [HS]
  · iapply (scratchAt_intro c); iexact HS
  iexact Hg

/-- The scratch at the end is given back. -/
theorem hout (c : Dev nD) : (dats m 0 c).Φ (Fin.last cfg0.N) ⊢ Pipeline.ΦA spec0 c := by
  rw [show (dats m 0 c).Φ (Fin.last cfg0.N) = inv m c (Fin.last cfg0.N).val from rfl, launchInv_eq]
  unfold inv
  iintro ⟨⟨%S0, HS⟩, Hg⟩
  isplitl [HS]
  · iapply (scratchAt_forget c _); iexact HS
  iexact Hg

set_option backward.isDefEq.respectTransparency.types false in
/-- Every run of the kernel ends, with the arrays where the pipeline's data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The kernel's arguments end as they began and its semaphores at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Track

end
-- ==== Proof.Same.lean ====
/- The kernel as printed and the kernel of the claims over the reals are one program, no operation having been replaced:
   so what the runs of the one leave, the runs of the other do. -/
module

public import proofs.«01_k».proof.Proof.Body
public import proofs.«01_k».proof.Proof.Gen.Kernel.Frame

@[expose] public section

set_option maxRecDepth 65536

noncomputable section

namespace Cert.Kernel.Same

open Idealize.ShloMosaic Idealize.ShloMosaic.TcCoe
open Idealize.SL Idealize.SL.Sem

attribute [local instance] Cert.Kernel.Gen.facts Cert.KernelIdeal.Gen.facts

variable {F : FTy → Type} [FloatOps F]

set_option maxHeartbeats 2000000 in
/-- The two programs' entry functions are the same program. -/
theorem main_same : Cert.Kernel.main (F := F) = Cert.KernelIdeal.main (F := F) := rfl

set_option maxHeartbeats 2000000 in
/-- The two programs' bodies are the same, at any point and any memrefs. -/
theorem defs₀_same : Cert.Kernel.defs₀ (F := F) = Cert.KernelIdeal.defs₀ (F := F) := by
  unfold Cert.Kernel.defs₀ Cert.KernelIdeal.defs₀
  congr 1
  funext l a
  match l, a with
  | 0, (t, s) =>
    dsimp only
    exact congrFun (congrFun (congrFun (congrFun (congrFun (congrFun (congrFun (congrFun (congrFun rfl _) _) _) _) _) _) _) _) _

/-- The two programs' body tables, the pipelines' rows included, are the same. -/
theorem defs_same : Cert.Kernel.defs (F := F) = Cert.KernelIdeal.defs (F := F) := by
  unfold Cert.Kernel.defs Cert.KernelIdeal.defs
  rw [defs₀_same]
  rfl

end Cert.Kernel.Same

end
-- ==== Proof.Frames.lean ====
/- The three programs' frames in the certificate's words: every run ends, the arguments as they began and the semaphores
   at zero. -/
module

public import proofs.«01_k».proof.Defs
public import proofs.«01_k».proof.Proof.Same
public import proofs.«01_k».proof.Proof.Gen.ReferenceIdeal.Run
public import Idealize.ShloMosaic.Lib.Claim

@[expose] public section

set_option maxRecDepth 65536

noncomputable section

namespace Cert.Frames

open Idealize.ShloMosaic Idealize.ShloMosaic.TcCoe Idealize.SL.Sem

attribute [local instance] Cert.Kernel.Gen.facts Cert.KernelIdeal.Gen.facts Cert.ReferenceIdeal.Gen.facts

/-- The kernel's frame over the reals. -/
theorem frame_ideal : Cert.quiescent_KernelIdeal := fun m g _ => Cert.KernelIdeal.Track.frame (F := Ideal) m g

/-- The kernel's frame over the machine's floats: the same program's, at the other numbers. -/
theorem frame_kernel : Cert.quiescent_Kernel := fun m g _ => by
  rw [Cert.Kernel.Same.main_same, Cert.Kernel.Same.defs_same]
  exact Cert.KernelIdeal.Track.frame (F := Bits) m g

/-- The reference's frame: its run read at the arguments; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Precond.lean ====
/- What the precondition says of the arguments, element by element. -/
module

public import proofs.«01_k».proof.Pre_finite_in_range
public import Idealize.ShloMosaic.Lib.WordCmp
public import Idealize.ShloMosaic.Lib.Pipeline.ValueKit.Point

@[expose] public section

set_option maxRecDepth 16384

noncomputable section

namespace Cert.Precond

open Cert.Pre_finite_in_range Idealize.ShloMosaic Idealize.ShloMosaic.TcCoe

/-- A single number spreads to each of the precondition's shapes. -/
theorem facts : Cert.Pre_finite_in_range.Facts where
  bcast_S_S65536x128 := by decide
  bcast_S_S65536 := by decide
  bcast_S_S128x128 := by decide
  bcast_S_S128 := by decide

/-- The bits of infinity are the top of the extended reals. -/
theorem ofBits_top : Ideal.ofBits .f32 0x7F800000#32 = (⊤ : EReal) := by
  simp [Ideal.ofBits, Ideal.ieee]

/-- A number whose absolute value lies below infinity is its real part. -/
theorem coe_of_abs_lt (a : EReal) (h : max a (-a) < ⊤) : a = ((a.toReal : ℝ) : EReal) := by
  induction a with
  | bot => simp at h
  | top => simp at h
  | coe r => rfl

/-- A word between 0 and 15 is the word of its remainder by 16. -/
theorem small_word (a : BitVec 32) (h0 : 0 ≤ a.toInt) (h1 : a.toInt < 16) : a = BitVec.ofNat 32 (a.toNat % 16) := by
  have h : a.toNat < 16 := by
    have := BitVec.toInt_eq_toNat_cond a
    split at this <;> omega
  rw [Nat.mod_eq_of_lt h, BitVec.ofNat_toNat, BitVec.setWidth_eq]

section
variable {s : Shape} (hs : S_.BroadcastsInDim s (![] : Fin 0 → Fin s.rank))

/-- The comparison of absolute values with infinity, read at an index. -/
theorem real_of (x : FVec Ideal s .f32)
    (h : cmpf .olt (Host.absf x) (broadcastInDim s ![] hs (constant S_ .f32 0x7F800000#32)) = fun _ => 1#1) (i : s.Idx) :
    x i = (((x i : EReal).toReal : ℝ) : EReal) := by
  have := congrFun h i
  pointwise at this
  rw [WordCmp.ofBool_decide_eq_one_iff, ofBits_top] at this
  exact coe_of_abs_lt (x i) this

/-- The two comparisons of a word with its bounds, read at an index. -/
theorem word_of (x : IVec s 32)
    (h0 : cmpi .sge x (broadcastInDim s ![] hs (constantI S_ 32 0#32)) = fun _ => 1#1)
    (h1 : cmpi .slt x (broadcastInDim s ![] hs (constantI S_ 32 16#32)) = fun _ => 1#1) (i : s.Idx) :
    x i = BitVec.ofNat 32 ((x i).toNat % 16) := by
  have h0 := congrFun h0 i
  have h1 := congrFun h1 i
  pointwise at h0
  pointwise at h1
  rw [WordCmp.cmpi_sge_eq, WordCmp.ofBool_decide_eq_one_iff] at h0
  rw [WordCmp.cmpi_slt_eq, WordCmp.ofBool_decide_eq_one_iff] at h1
  exact small_word (x i) h0 h1
end

end Cert.Precond

end
-- ==== Proof.RefLayer.lean ====
/- The reference's terms as functions of one layer's operands: both layers are the same terms. -/
module

public import proofs.«01_k».proof.Proof.Gen.ReferenceIdeal.Run

@[expose] public section

set_option maxRecDepth 16384

noncomputable section

namespace Cert.ReferenceIdeal.Layer

open Cert.ReferenceIdeal Cert.ReferenceIdeal.Gen Cert.ReferenceIdeal.Value
open Idealize.ShloMosaic Idealize.ShloMosaic.TcCoe

variable {F : FTy → Type} [FloatOps F]

/-- The counts of the instances' points, and at least one. -/
def tCnt (ids : IVec S65536 32) : FVec F S16 .f32 :=
  maximumf (Host.scatterAdd scatter_S16_S65536x1_S65536_n_0_0_1 (broadcastInDim S16 ![] bcast_S_S16 (constant (F := F) S_ .f32 0x00000000#32)) (broadcastInDim S65536x1 ![0] bcast_S65536_S65536x1_0 ids) (broadcastInDim S65536 ![] bcast_S_S65536 (constant (F := F) S_ .f32 0x3F800000#32))) (broadcastInDim S16 ![] bcast_S_S16 (constant (F := F) S_ .f32 0x3F800000#32))

/-- The linear map. -/
def tLin (x : FVec F S65536x128 .f32) (w : FVec F S128x128 .f32) (b : FVec F S128 .f32) : FVec F S65536x128 .f32 :=
  addf (Host.dotGeneral dot_S65536x128_S128x128_S65536x128_1_0_0_1_n_n none x w) (broadcastInDim S65536x128 ![0, 1] bcast_S1x128_S65536x128_0_1 (broadcastInDim S1x128 ![1] bcast_S128_S1x128_1 b))

/-- The row numbers as the table look-ups take them. -/
def tIdx (ids : IVec S65536 32) : IVec S65536x1 32 :=
  broadcastInDim S65536x1 ![0] bcast_S65536_S65536x1_0 (select (cmpi .slt ids (broadcastInDim S65536 ![] bcast_S_S65536 (constantI S_ 32 0#32))) (addi ids (broadcastInDim S65536 ![] bcast_S_S65536 (constantI S_ 32 16#32))) ids)

/-- The instances' means with a zero column at both ends. -/
def tPad (y : FVec F S65536x128 .f32) (ids : IVec S65536 32) : FVec F S16x130 .f32 :=
  pad S16x130 ![0, 1] ![0, 1] ![0, 0] (Host.divf (Host.scatterAdd scatter_S16x128_S65536x1_S65536x128_1_0_0_1 (broadcastInDim S16x128 ![] bcast_S_S16x128 (constant (F := F) S_ .f32 0x00000000#32)) (broadcastInDim S65536x1 ![0] bcast_S65536_S65536x1_0 ids) y) (broadcastInDim S16x128 ![0, 1] bcast_S16x1_S16x128_0_1 (broadcastInDim S16x1 ![0] bcast_S16_S16x1_0 (tCnt (F := F) ids)))) (sitofp .f32 (constantI S_ 32 0#32)) pads_S16x128_S16x130_000_110 h_S_

/-- The attention table. -/
def tAtt (y : FVec F S65536x128 .f32) (ids : IVec S65536 32) (e : FVec F S3 .f32) : FVec F S16x128 .f32 :=
  Host.divf (broadcastInDim S16x128 ![] bcast_S_S16x128 (constant (F := F) S_ .f32 0x3F800000#32)) (addf (broadcastInDim S16x128 ![] bcast_S_S16x128 (constant (F := F) S_ .f32 0x3F800000#32)) (Host.exp (Host.negf (addf (addf (mulf (broadcastInDim S16x128 ![] bcast_S_S16x128 (shapeCast S_ (extractStridedSlice S1 ![0] e slices_S3_S1_0) shapeCasts_S1_S_)) (extractStridedSlice S16x128 ![0, 0] (tPad y ids) slices_S16x130_S16x128_0_0)) (mulf (broadcastInDim S16x128 ![] bcast_S_S16x128 (shapeCast S_ (extractStridedSlice S1 ![1] e slices_S3_S1_1) shapeCasts_S1_S_)) (extractStridedSlice S16x128 ![0, 1] (tPad y ids) slices_S16x130_S16x128_0_1))) (mulf (broadcastInDim S16x128 ![] bcast_S_S16x128 (shapeCast S_ (extractStridedSlice S1 ![2] e slices_S3_S1_2) shapeCasts_S1_S_)) (extractStridedSlice S16x128 ![0, 2] (tPad y ids) slices_S16x130_S16x128_0_2))))))

/-- The attended points in groups. -/
def tZ (y : FVec F S65536x128 .f32) (ids : IVec S65536 32) (e : FVec F S3 .f32) : FVec F S65536x32x4 .f32 :=
  shapeCast S65536x32x4 (mulf y (Host.gather gather_S16x128_S65536x1_S65536x128_1_0_n_n_0_1_1128 (tAtt y ids e) (tIdx ids))) shapeCasts_S65536x128_S65536x32x4

/-- The divisors of a group's sums. -/
def tDen (ids : IVec S65536 32) : FVec F S16x1 .f32 :=
  mulf (broadcastInDim S16x1 ![0] bcast_S16_S16x1_0 (tCnt (F := F) ids)) (broadcastInDim S16x1 ![] bcast_S_S16x1 (constant (F := F) S_ .f32 0x40800000#32))

/-- The groups' means. -/
def tMean (y : FVec F S65536x128 .f32) (ids : IVec S65536 32) (e : FVec F S3 .f32) : FVec F S16x32 .f32 :=
  Host.divf (Host.reduceAdd (Host.scatterAdd scatter_S16x32x4_S65536x1_S65536x32x4_12_0_0_1 (broadcastInDim S16x32x4 ![] bcast_S_S16x32x4 (constant (F := F) S_ .f32 0x00000000#32)) (broadcastInDim S65536x1 ![0] bcast_S65536_S65536x1_0 ids) (tZ y ids e)) (constant (F := F) S_ .f32 0x00000000#32) reducesTo_S16x32x4_S16x32_d2 h_S_) (broadcastInDim S16x32 ![0, 1] bcast_S16x1_S16x32_0_1 (tDen (F := F) ids))

/-- The groups' variances. -/
def tVar (y : FVec F S65536x128 .f32) (ids : IVec S65536 32) (e : FVec F S3 .f32) : FVec F S16x32 .f32 :=
  subf (Host.divf (Host.reduceAdd (Host.scatterAdd scatter_S16x32x4_S65536x1_S65536x32x4_12_0_0_1 (broadcastInDim S16x32x4 ![] bcast_S_S16x32x4 (constant (F := F) S_ .f32 0x00000000#32)) (broadcastInDim S65536x1 ![0] bcast_S65536_S65536x1_0 ids) (mulf (tZ y ids e) (tZ y ids e))) (constant (F := F) S_ .f32 0x00000000#32) reducesTo_S16x32x4_S16x32_d2 h_S_) (broadcastInDim S16x32 ![0, 1] bcast_S16x1_S16x32_0_1 (tDen (F := F) ids))) (mulf (tMean y ids e) (tMean y ids e))

/-- The layer's result. -/
def tOut (y : FVec F S65536x128 .f32) (ids : IVec S65536 32) (e : FVec F S3 .f32) (g t : FVec F S128 .f32) : FVec F S65536x128 .f32 :=
  maximumf (addf (mulf (shapeCast S65536x128 (mulf (subf (tZ y ids e) (broadcastInDim S65536x32x4 ![0, 1, 2] bcast_S65536x32x1_S65536x32x4_0_1_2 (broadcastInDim S65536x32x1 ![0, 1] bcast_S65536x32_S65536x32x1_0_1 (Host.gather gather_S16x32_S65536x1_S65536x32_1_0_n_n_0_1_132 (tMean y ids e) (tIdx ids))))) (broadcastInDim S65536x32x4 ![0, 1, 2] bcast_S65536x32x1_S65536x32x4_0_1_2 (Host.rsqrt (addf (broadcastInDim S65536x32x1 ![0, 1] bcast_S65536x32_S65536x32x1_0_1 (Host.gather gather_S16x32_S65536x1_S65536x32_1_0_n_n_0_1_132 (tVar y ids e) (tIdx ids))) (broadcastInDim S65536x32x1 ![] bcast_S_S65536x32x1 (constant (F := F) S_ .f32 0x3727C5AC#32)))))) shapeCasts_S65536x32x4_S65536x128) (broadcastInDim S65536x128 ![0, 1] bcast_S1x128_S65536x128_0_1 (broadcastInDim S1x128 ![1] bcast_S128_S1x128_1 g))) (broadcastInDim S65536x128 ![0, 1] bcast_S1x128_S65536x128_0_1 (broadcastInDim S1x128 ![1] bcast_S128_S1x128_1 t))) (broadcastInDim S65536x128 ![] bcast_S_S65536x128 (constant (F := F) S_ .f32 0x00000000#32))

/-- The reference's first layer. -/
def layer0 (V0 : Valuation τ sig (Elt F)) : FVec F S65536x128 .f32 :=
  tOut (tLin (V0 (Proc.devRef .tc main_arg0)) (V0 (Proc.devRef .tc main_arg2)) (V0 (Proc.devRef .tc main_arg3)))
    (V0 (Proc.devRef .tc main_arg1)) (V0 (Proc.devRef .tc main_arg4)) (V0 (Proc.devRef .tc main_arg5)) (V0 (Proc.devRef .tc main_arg6))

/-- The reference's second layer. -/
def layer1 (V0 : Valuation τ sig (Elt F)) : FVec F S65536x128 .f32 :=
  tOut (tLin (layer0 V0) (V0 (Proc.devRef .tc main_arg7)) (V0 (Proc.devRef .tc main_arg8)))
    (V0 (Proc.devRef .tc main_arg1)) (V0 (Proc.devRef .tc main_arg9)) (V0 (Proc.devRef .tc main_arg10)) (V0 (Proc.devRef .tc main_arg11))

section
variable (V0 : Valuation τ sig (Elt F))

/-- The first layer's linear map. -/
abbrev l0 : FVec F S65536x128 .f32 :=
  tLin (V0 (Proc.devRef .tc main_arg0)) (V0 (Proc.devRef .tc main_arg2)) (V0 (Proc.devRef .tc main_arg3))
/-- The second layer's linear map. -/
abbrev l1 : FVec F S65536x128 .f32 :=
  tLin (layer0 V0) (V0 (Proc.devRef .tc main_arg7)) (V0 (Proc.devRef .tc main_arg8))
/-- The row numbers. -/
abbrev nums : IVec S65536 32 := V0 (Proc.devRef .tc main_arg1)

/-- The counts. -/
theorem v5_eq : res_main_v5 V0 = tCnt (nums V0) := rfl
/-- The first linear map. -/
theorem v9_eq : res_main_v9 V0 = l0 V0 := rfl
/-- The first padded means. -/
theorem v16_eq : res_main_v16 V0 = tPad (l0 V0) (nums V0) := by
  unfold res_main_v16; rw [v5_eq, v9_eq]; rfl
/-- The first attended points. -/
theorem v48_eq : res_main_v48 V0 = tZ (l0 V0) (nums V0) (V0 (Proc.devRef .tc main_arg4)) := by
  unfold res_main_v48; rw [v16_eq, v9_eq]; rfl
/-- The first divisors. -/
theorem v60_eq : res_main_v60 V0 = tDen (nums V0) := by
  unfold res_main_v60; rw [v5_eq]; rfl
/-- The first groups' means. -/
theorem v62_eq : res_main_v62 V0 = tMean (l0 V0) (nums V0) (V0 (Proc.devRef .tc main_arg4)) := by
  unfold res_main_v62; rw [v48_eq, v60_eq]; rfl
/-- The second linear map. -/
theorem v101_eq : res_main_v101 V0 = l1 V0 := by
  unfold res_main_v101; rw [v48_eq, v60_eq, v62_eq]; rfl
/-- The second padded means. -/
theorem v108_eq : res_main_v108 V0 = tPad (l1 V0) (nums V0) := by
  unfold res_main_v108; rw [v5_eq, v101_eq]; rfl
/-- The second attended points. -/
theorem v140_eq : res_main_v140 V0 = tZ (l1 V0) (nums V0) (V0 (Proc.devRef .tc main_arg9)) := by
  unfold res_main_v140; rw [v108_eq, v101_eq]; rfl
/-- The second divisors. -/
theorem v152_eq : res_main_v152 V0 = tDen (nums V0) := by
  unfold res_main_v152; rw [v5_eq]; rfl
/-- The second groups' means. -/
theorem v154_eq : res_main_v154 V0 = tMean (l1 V0) (nums V0) (V0 (Proc.devRef .tc main_arg9)) := by
  unfold res_main_v154; rw [v140_eq, v152_eq]; rfl

/-- The reference's result is its second layer. -/
theorem result_eq : maximumf (addf (mulf (shapeCast _ (mulf (subf (res_main_v140 V0) (broadcastInDim S65536x32x4 ![0, 1, 2] bcast_S65536x32x1_S65536x32x4_0_1_2 (broadcastInDim S65536x32x1 ![0, 1] bcast_S65536x32_S65536x32x1_0_1 (Host.gather gather_S16x32_S65536x1_S65536x32_1_0_n_n_0_1_132 (res_main_v154 V0) (broadcastInDim S65536x1 ![0] bcast_S65536_S65536x1_0 (select (cmpi .slt (V0 (Proc.devRef .tc main_arg1)) (broadcastInDim S65536 ![] bcast_S_S65536 (constantI S_ 32 0#32))) (addi (V0 (Proc.devRef .tc main_arg1)) (broadcastInDim S65536 ![] bcast_S_S65536 (constantI S_ 32 16#32))) (V0 (Proc.devRef .tc main_arg1)))))))) (broadcastInDim S65536x32x4 ![0, 1, 2] bcast_S65536x32x1_S65536x32x4_0_1_2 (Host.rsqrt (addf (broadcastInDim S65536x32x1 ![0, 1] bcast_S65536x32_S65536x32x1_0_1 (Host.gather gather_S16x32_S65536x1_S65536x32_1_0_n_n_0_1_132 (subf (Host.divf (Host.reduceAdd (Host.scatterAdd scatter_S16x32x4_S65536x1_S65536x32x4_12_0_0_1 (broadcastInDim S16x32x4 ![] bcast_S_S16x32x4 (constant S_ .f32 0x00000000#32)) (broadcastInDim S65536x1 ![0] bcast_S65536_S65536x1_0 (V0 (Proc.devRef .tc main_arg1))) (mulf (res_main_v140 V0) (res_main_v140 V0))) (constant S_ .f32 0x00000000#32) reducesTo_S16x32x4_S16x32_d2 h_S_) (broadcastInDim S16x32 ![0, 1] bcast_S16x1_S16x32_0_1 (res_main_v152 V0))) (mulf (res_main_v154 V0) (res_main_v154 V0))) (broadcastInDim S65536x1 ![0] bcast_S65536_S65536x1_0 (select (cmpi .slt (V0 (Proc.devRef .tc main_arg1)) (broadcastInDim S65536 ![] bcast_S_S65536 (constantI S_ 32 0#32))) (addi (V0 (Proc.devRef .tc main_arg1)) (broadcastInDim S65536 ![] bcast_S_S65536 (constantI S_ 32 16#32))) (V0 (Proc.devRef .tc main_arg1)))))) (broadcastInDim S65536x32x1 ![] bcast_S_S65536x32x1 (constant S_ .f32 0x3727C5AC#32)))))) shapeCasts_S65536x32x4_S65536x128) (broadcastInDim S65536x128 ![0, 1] bcast_S1x128_S65536x128_0_1 (broadcastInDim S1x128 ![1] bcast_S128_S1x128_1 (V0 (Proc.devRef .tc main_arg10))))) (broadcastInDim S65536x128 ![0, 1] bcast_S1x128_S65536x128_0_1 (broadcastInDim S1x128 ![1] bcast_S128_S1x128_1 (V0 (Proc.devRef .tc main_arg11))))) (broadcastInDim S65536x128 ![] bcast_S_S65536x128 (constant S_ .f32 0x00000000#32)) = layer1 V0 := by
  rw [v140_eq, v152_eq, v154_eq]; rfl

end

end Cert.ReferenceIdeal.Layer

end
-- ==== Proof.RefRead.lean ====
/- The reference's terms read at an index over the extended reals. -/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Read

open Cert.ReferenceIdeal Cert.ReferenceIdeal.Gen
open Idealize.ShloMosaic Idealize.ShloMosaic.TcCoe

/-- The integer of an instance's number. -/
theorem toInt_id (k : Fin 16) : (BitVec.ofNat 32 k.val).toInt = k.val := by
  revert k; decide

section
variable {α : Type}

/-- Rows taken out of a table at one row number per point: the table at the point's row. -/
theorem rows_apply {C : ℕ} (wf : GatherDims.WF ⟨2, ![16, C]⟩ S65536x1 ⟨2, ![65536, C]⟩ [1] [0] [] [0] [] 1 ![1, C])
    (x : (⟨2, ![16, C]⟩ : Shape).Idx → α) (idx : IVec S65536x1 32) (n : Fin 65536) (c : Fin C) (k : Fin 16)
    (h : idx (ix2 n 0) = BitVec.ofNat 32 k.val) :
    Host.gather (⟨[1], [0], [], [], [0], 1, ![1, C], wf⟩ : GatherDims ⟨2, ![16, C]⟩ S65536x1 ⟨2, ![65536, C]⟩) x idx (ix2 n c)
      = x (ix2 k c) := by
  unfold Host.gather
  congr 1
  funext a
  refine Fin.ext ?_
  set d : GatherDims ⟨2, ![16, C]⟩ S65536x1 ⟨2, ![65536, C]⟩ := ⟨[1], [0], [], [], [0], 1, ![1, C], wf⟩
  show d.start (ix2 n c) idx a + d.batchCoord (ix2 n c) a + d.offCoord (ix2 n c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix2 n c) ⟨List.idxOf (0 : Fin 2) d.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, h, toInt_id]
    show min ((k.val : ℤ).toNat) (16 - 1) + 0 + 0 = k.val
    have := k.isLt
    omega
  · rw [GatherDims.batchCoord_eq_zero _ _ _ List.not_mem_nil]
    unfold GatherDims.start
    rw [dif_neg (show (1 : Fin 2) ∉ d.startIndexMap from fun h => absurd (List.mem_singleton.mp h) (show (1 : Fin 2) ≠ 0 by decide))]
    show 0 + 0 + c.val = c.val
    omega

/-- A look-up of a table of 128 columns takes the row of the point's instance. -/
theorem gather128_apply (x : S16x128.Idx → α) (idx : IVec S65536x1 32) (n : Fin 65536) (c : Fin 128) (k : Fin 16)
    (h : idx (ix2 n 0) = BitVec.ofNat 32 k.val) :
    Host.gather gather_S16x128_S65536x1_S65536x128_1_0_n_n_0_1_1128 x idx (ix2 n c) = x (ix2 k c) :=
  rows_apply Facts₀.gather_S16x128_S65536x1_S65536x128_1_0_n_n_0_1_1128_wf x idx n c k h

/-- A look-up of a table of 32 columns takes the row of the point's instance. -/
theorem gather32_apply (x : S16x32.Idx → α) (idx : IVec S65536x1 32) (n : Fin 65536) (c : Fin 32) (k : Fin 16)
    (h : idx (ix2 n 0) = BitVec.ofNat 32 k.val) :
    Host.gather gather_S16x32_S65536x1_S65536x32_1_0_n_n_0_1_132 x idx (ix2 n c) = x (ix2 k c) :=
  rows_apply Facts₀.gather_S16x32_S65536x1_S65536x32_1_0_n_n_0_1_132_wf x idx n c k h

end

/-- A point's row number lands its update in its instance's row. -/
theorem start_id {s u : Shape} (d : ScatterDims s S65536x1 u) (idx : IVec S65536x1 32) (j : u.Idx) (k : Fin 16) (a : Fin s.rank)
    (n : Fin 65536) (ha : a ∈ d.scatterDimsToOperandDims)
    (hs : d.siIdx j ⟨d.scatterDimsToOperandDims.idxOf a, List.idxOf_lt_length_iff.2 ha⟩ = ix2 n 0)
    (h : idx (ix2 n 0) = BitVec.ofNat 32 k.val) : d.start j idx a = k.val := by
  unfold ScatterDims.start
  rw [dif_pos ha, hs, h, toInt_id]

/-- A point's number goes to the place of its instance. -/
theorem result1 (idx : IVec S65536x1 32) (n : Fin 65536) (k : Fin 16) (h : idx (ix2 n 0) = BitVec.ofNat 32 k.val) :
    scatter_S16_S65536x1_S65536_n_0_0_1.resultIdx? (ix1 n) idx = some (ix1 k) := by
  set d := scatter_S16_S65536x1_S65536_n_0_0_1
  have h0 : d.start (ix1 n) idx 0 = k.val := start_id d idx _ k 0 n (List.mem_singleton.mpr rfl) (by
    funext b; refine Fin.ext ?_
    match b with
    | ⟨0, _⟩ => rfl
    | ⟨1, _⟩ => rfl) h
  have w0 : d.window (ix1 n) 0 = 0 := rfl
  have hk := k.isLt
  unfold ScatterDims.resultIdx?
  have hall : ∀ a, 0 ≤ d.start (ix1 n) idx a + d.window (ix1 n) a ∧ d.start (ix1 n) idx a + d.window (ix1 n) a < S16.size a := by
    intro a
    obtain rfl : a = 0 := Subsingleton.elim _ _
    rw [h0, w0]
    show 0 ≤ (k.val : ℤ) + (0 : ℕ) ∧ (k.val : ℤ) + (0 : ℕ) < ((16 : ℕ) : ℤ)
    omega
  rw [dif_pos hall]
  congr 1
  funext a
  obtain rfl : a = 0 := Subsingleton.elim _ _
  refine Fin.ext ?_
  show (d.start (ix1 n) idx 0 + d.window (ix1 n) 0).toNat = k.val
  rw [h0, w0]
  omega

/-- A point's channel goes to the place of its instance and channel. -/
theorem result2 (idx : IVec S65536x1 32) (n : Fin 65536) (c : Fin 128) (k : Fin 16) (h : idx (ix2 n 0) = BitVec.ofNat 32 k.val) :
    scatter_S16x128_S65536x1_S65536x128_1_0_0_1.resultIdx? (ix2 n c) idx = some (ix2 k c) := by
  set d := scatter_S16x128_S65536x1_S65536x128_1_0_0_1
  have h0 : d.start (ix2 n c) idx 0 = k.val := start_id d idx _ k 0 n (List.mem_singleton.mpr rfl) (by
    funext b; refine Fin.ext ?_
    match b with
    | ⟨0, _⟩ => rfl
    | ⟨1, _⟩ => rfl) h
  have h1 : d.start (ix2 n c) idx 1 = 0 := dif_neg fun h => absurd (List.mem_singleton.mp h) (by decide)
  have w0 : d.window (ix2 n c) 0 = 0 := rfl
  have w1 : d.window (ix2 n c) 1 = c.val := rfl
  have hk := k.isLt
  have hcl := c.isLt
  unfold ScatterDims.resultIdx?
  have hall : ∀ a, 0 ≤ d.start (ix2 n c) idx a + d.window (ix2 n c) a
      ∧ d.start (ix2 n c) idx a + d.window (ix2 n c) a < S16x128.size a := by
    intro a
    match a with
    | ⟨0, _⟩ =>
      erw [h0, w0]
      show 0 ≤ (k.val : ℤ) + (0 : ℕ) ∧ (k.val : ℤ) + (0 : ℕ) < ((16 : ℕ) : ℤ)
      omega
    | ⟨1, _⟩ =>
      erw [h1, w1]
      show 0 ≤ (0 : ℤ) + c.val ∧ (0 : ℤ) + c.val < ((128 : ℕ) : ℤ)
      omega
  rw [dif_pos hall]
  congr 1
  funext a
  refine Fin.ext ?_
  match a with
  | ⟨0, _⟩ =>
    show (d.start (ix2 n c) idx 0 + d.window (ix2 n c) 0).toNat = k.val
    rw [h0, w0]; omega
  | ⟨1, _⟩ =>
    show (d.start (ix2 n c) idx 1 + d.window (ix2 n c) 1).toNat = c.val
    rw [h1, w1]; omega

/-- A point's grouped channel goes to the place of its instance, group and channel. -/
theorem result3 (idx : IVec S65536x1 32) (n : Fin 65536) (g : Fin 32) (c : Fin 4) (k : Fin 16)
    (h : idx (ix2 n 0) = BitVec.ofNat 32 k.val) :
    scatter_S16x32x4_S65536x1_S65536x32x4_12_0_0_1.resultIdx? (ix3 n g c) idx = some (ix3 k g c) := by
  set d := scatter_S16x32x4_S65536x1_S65536x32x4_12_0_0_1
  have h0 : d.start (ix3 n g c) idx 0 = k.val := start_id d idx _ k 0 n (List.mem_singleton.mpr rfl) (by
    funext b; refine Fin.ext ?_
    match b with
    | ⟨0, _⟩ => rfl
    | ⟨1, _⟩ => rfl) h
  have h1 : d.start (ix3 n g c) idx 1 = 0 := dif_neg fun h => absurd (List.mem_singleton.mp h) (by decide)
  have h2 : d.start (ix3 n g c) idx 2 = 0 := dif_neg fun h => absurd (List.mem_singleton.mp h) (by decide)
  have w0 : d.window (ix3 n g c) 0 = 0 := rfl
  have w1 : d.window (ix3 n g c) 1 = g.val := rfl
  have w2 : d.window (ix3 n g c) 2 = c.val := rfl
  have hk := k.isLt
  have hg := g.isLt
  have hcl := c.isLt
  unfold ScatterDims.resultIdx?
  have hall : ∀ a, 0 ≤ d.start (ix3 n g c) idx a + d.window (ix3 n g c) a
      ∧ d.start (ix3 n g c) idx a + d.window (ix3 n g c) a < S16x32x4.size a := by
    intro a
    match a with
    | ⟨0, _⟩ =>
      erw [h0, w0]
      show 0 ≤ (k.val : ℤ) + (0 : ℕ) ∧ (k.val : ℤ) + (0 : ℕ) < ((16 : ℕ) : ℤ)
      omega
    | ⟨1, _⟩ =>
      erw [h1, w1]
      show 0 ≤ (0 : ℤ) + g.val ∧ (0 : ℤ) + g.val < ((32 : ℕ) : ℤ)
      omega
    | ⟨2, _⟩ =>
      erw [h2, w2]
      show 0 ≤ (0 : ℤ) + c.val ∧ (0 : ℤ) + c.val < ((4 : ℕ) : ℤ)
      omega
  rw [dif_pos hall]
  congr 1
  funext a
  refine Fin.ext ?_
  match a with
  | ⟨0, _⟩ =>
    show (d.start (ix3 n g c) idx 0 + d.window (ix3 n g c) 0).toNat = k.val
    rw [h0, w0]; omega
  | ⟨1, _⟩ =>
    show (d.start (ix3 n g c) idx 1 + d.window (ix3 n g c) 1).toNat = g.val
    rw [h1, w1]; omega
  | ⟨2, _⟩ =>
    show (d.start (ix3 n g c) idx 2 + d.window (ix3 n g c) 2).toNat = c.val
    rw [h2, w2]; omega

/-- The counts: the ones of an instance's points added up. -/
theorem scatter1_apply (x : FVec Ideal S16 .f32) (idx : IVec S65536x1 32) (u : FVec Ideal S65536 .f32) (id : Fin 65536 → Fin 16)
    (h : ∀ n, idx (ix2 n 0) = BitVec.ofNat 32 (id n).val) (k : Fin 16) :
    Host.scatterAdd scatter_S16_S65536x1_S65536_n_0_0_1 x idx u (ix1 k)
      = (x (ix1 k) + ∑ n, if id n = k then (u (ix1 n) : EReal) else 0 : EReal) := by
  show (x (ix1 k) : EReal) + Finset.sum (M := EReal) _ _ = _
  refine congrArg _ ?_
  rw [Finset.sum_filter, sum_idx1]
  refine Finset.sum_congr rfl fun n _ => ?_
  simp only [result1 idx n _ (h n), Option.some.injEq, ix1_inj]

/-- The sums of a matrix's rows over an instance's points. -/
theorem scatter2_apply (x : FVec Ideal S16x128 .f32) (idx : IVec S65536x1 32) (u : FVec Ideal S65536x128 .f32) (id : Fin 65536 → Fin 16)
    (h : ∀ n, idx (ix2 n 0) = BitVec.ofNat 32 (id n).val) (k : Fin 16) (c : Fin 128) :
    Host.scatterAdd scatter_S16x128_S65536x1_S65536x128_1_0_0_1 x idx u (ix2 k c)
      = (x (ix2 k c) + ∑ n, if id n = k then (u (ix2 n c) : EReal) else 0 : EReal) := by
  show (x (ix2 k c) : EReal) + Finset.sum (M := EReal) _ _ = _
  refine congrArg _ ?_
  rw [Finset.sum_filter, sum_idx2]
  refine Finset.sum_congr rfl fun n _ => ?_
  simp only [result2 idx n _ _ (h n), Option.some.injEq, ix2_inj]
  by_cases hn : id n = k
  · simp [hn]
  · simp [hn]

/-- The sums of a three-axis array's slabs over an instance's points. -/
theorem scatter3_apply (x : FVec Ideal S16x32x4 .f32) (idx : IVec S65536x1 32) (u : FVec Ideal S65536x32x4 .f32) (id : Fin 65536 → Fin 16)
    (h : ∀ n, idx (ix2 n 0) = BitVec.ofNat 32 (id n).val) (k : Fin 16) (g : Fin 32) (c : Fin 4) :
    Host.scatterAdd scatter_S16x32x4_S65536x1_S65536x32x4_12_0_0_1 x idx u (ix3 k g c)
      = (x (ix3 k g c) + ∑ n, if id n = k then (u (ix3 n g c) : EReal) else 0 : EReal) := by
  show (x (ix3 k g c) : EReal) + Finset.sum (M := EReal) _ _ = _
  refine congrArg _ ?_
  rw [Finset.sum_filter, sum_idx3]
  refine Finset.sum_congr rfl fun n _ => ?_
  simp only [result3 idx n _ _ _ (h n), Option.some.injEq, ix3_inj]
  by_cases hn : id n = k
  · simp [hn, ite_and]
  · simp [hn]

end Cert.ReferenceIdeal.Read

end
-- ==== Proof.Model.lean ====
/- One layer's attention and normalisation over the reals: the sums over an instance's points, the attention of an
   instance's channels, a group's mean, spread and reciprocal root, and the layer's result. -/
module

public import Idealize.ShloMosaic.PureOps.Ideal
public import Idealize.ShloMosaic.Lib.IdealHost

@[expose] public section

set_option maxRecDepth 16384

noncomputable section

namespace Cert.Model

open Idealize.ShloMosaic

/-- The number added to a variance. -/
abbrev epsE : EReal := Ideal.ofBits .f32 0x3727C5AC#32

/-- The number of an instance's points, and at least one. -/
def cn (id : Fin 65536 → Fin 16) (k : Fin 16) : ℝ := max (∑ n, if id n = k then 1 else 0) 1

/-- The sum over an instance's points. -/
def seg (id : Fin 65536 → Fin 16) (f : Fin 65536 → ℝ) (k : Fin 16) : ℝ := ∑ n, if id n = k then f n else 0

/-- An instance's mean of a channel. -/
def mu (id : Fin 65536 → Fin 16) (y : Fin 65536 → Fin 128 → ℝ) (k : Fin 16) (c : Fin 128) : ℝ :=
  seg id (fun n => y n c) k / cn id k

/-- The three-tap convolution of an instance's means along the channels, with zeros past both ends. -/
def conv (id : Fin 65536 → Fin 16) (y : Fin 65536 → Fin 128 → ℝ) (e : Fin 3 → EReal) (k : Fin 16) (c : Fin 128) : EReal :=
  e 0 * (if h : 1 ≤ c.val then ((mu id y k ⟨c.val - 1, by omega⟩ : ℝ) : EReal) else 0) + e 1 * ((mu id y k c : ℝ) : EReal)
    + e 2 * (if h : c.val < 127 then ((mu id y k ⟨c.val + 1, by omega⟩ : ℝ) : EReal) else 0)

/-- The attention of an instance's channel. -/
def att (id : Fin 65536 → Fin 16) (y : Fin 65536 → Fin 128 → ℝ) (e : Fin 3 → EReal) (k : Fin 16) (c : Fin 128) : ℝ :=
  (Ideal.logistic (conv id y e k c)).toReal

/-- Channel `j` of group `g`. -/
def chan (g : Fin 32) (j : Fin 4) : Fin 128 := ⟨4 * g.val + j.val, by omega⟩

/-- The group of channel `c`. -/
def grp (c : Fin 128) : Fin 32 := ⟨c.val / 4, by omega⟩

/-- A group's mean over an instance. -/
def mean (id : Fin 65536 → Fin 16) (y : Fin 65536 → Fin 128 → ℝ) (e : Fin 3 → EReal) (k : Fin 16) (g : Fin 32) : ℝ :=
  (∑ j : Fin 4, att id y e k (chan g j) * seg id (fun n => y n (chan g j)) k) / (cn id k * 4)

/-- A group's variance over an instance. -/
def var (id : Fin 65536 → Fin 16) (y : Fin 65536 → Fin 128 → ℝ) (e : Fin 3 → EReal) (k : Fin 16) (g : Fin 32) : ℝ :=
  (∑ j : Fin 4, att id y e k (chan g j) * att id y e k (chan g j) * seg id (fun n => y n (chan g j) * y n (chan g j)) k)
    / (cn id k * 4) - mean id y e k g * mean id y e k g

/-- A group's reciprocal root over an instance. -/
def rstd (id : Fin 65536 → Fin 16) (y : Fin 65536 → Fin 128 → ℝ) (e : Fin 3 → EReal) (k : Fin 16) (g : Fin 32) : ℝ :=
  (Ideal.rsqrt ((var id y e k g : ℝ) + epsE)).toReal

/-- The layer's result before the shift: a real. -/
def core (id : Fin 65536 → Fin 16) (y : Fin 65536 → Fin 128 → ℝ) (e : Fin 3 → EReal) (γ : Fin 128 → ℝ) (n : Fin 65536)
    (c : Fin 128) : ℝ :=
  (y n c * att id y e (id n) c - mean id y e (id n) (grp c)) * rstd id y e (id n) (grp c) * γ c

/-- The layer's result. -/
def out (id : Fin 65536 → Fin 16) (y : Fin 65536 → Fin 128 → ℝ) (e : Fin 3 → EReal) (γ : Fin 128 → ℝ) (β : Fin 128 → EReal)
    (n : Fin 65536) (c : Fin 128) : EReal :=
  max (((core id y e γ n c : ℝ) : EReal) + β c) 0

/-- A linear map of the points' channels. -/
def lin (x : Fin 65536 → Fin 128 → ℝ) (w : Fin 128 → Fin 128 → ℝ) (b : Fin 128 → ℝ) (n : Fin 65536) (c : Fin 128) : ℝ :=
  (∑ k, x n k * w k c) + b c

/-- A layer's result with a real shift is real. -/
def outR (id : Fin 65536 → Fin 16) (y : Fin 65536 → Fin 128 → ℝ) (e : Fin 3 → EReal) (γ : Fin 128 → ℝ) (β : Fin 128 → ℝ)
    (n : Fin 65536) (c : Fin 128) : ℝ :=
  max (core id y e γ n c + β c) 0

/-! ## Sums and quotients of reals among the extended reals -/

/-- A sum of reals among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real or zero among the extended reals. -/
theorem coe_ite {p : Prop} [Decidable p] (x : ℝ) : (((if p then x else 0 : ℝ)) : EReal) = if p then (x : EReal) else 0 := by
  split <;> simp

/-- The greater of two reals among the extended reals. -/
theorem coe_max (a b : ℝ) : ((max a b : ℝ) : EReal) = max (a : EReal) (b : EReal) :=
  EReal.coe_strictMono.monotone.map_max

/-- A quotient of reals among the extended reals. -/
theorem coe_div (a b : ℝ) (h : b ≠ 0) : Ideal.div (a : EReal) (b : EReal) = ((a / b : ℝ) : EReal) := by
  unfold Ideal.div
  rw [if_neg (by simpa using h), div_eq_mul_inv, EReal.coe_mul, EReal.coe_inv]

/-- A layer's result with a real shift is the real one. -/
theorem out_real (id : Fin 65536 → Fin 16) (y : Fin 65536 → Fin 128 → ℝ) (e : Fin 3 → EReal) (γ : Fin 128 → ℝ)
    (β : Fin 128 → ℝ) (n : Fin 65536) (c : Fin 128) :
    out id y e γ (fun c => (β c : EReal)) n c = ((outR id y e γ β n c : ℝ) : EReal) := by
  unfold out outR
  rw [coe_max, EReal.coe_add, EReal.coe_zero]

/-- The single-precision pattern of four. -/
theorem ofBits_four : Ideal.ofBits .f32 0x40800000#32 = ((4 : ℝ) : EReal) := by
  simp [Ideal.ofBits, Ideal.ieee, -EReal.coe_mul]; norm_num

/-- An instance's sum of reals is real. -/
theorem seg_coe (id : Fin 65536 → Fin 16) (f : Fin 65536 → ℝ) (k : Fin 16) :
    (∑ n, if id n = k then ((f n : ℝ) : EReal) else 0) = ((seg id f k : ℝ) : EReal) := by
  unfold seg
  rw [coe_sum]
  exact Finset.sum_congr rfl fun n _ => (coe_ite _).symm

/-- An instance's count, and at least one, is real. -/
theorem cn_coe (id : Fin 65536 → Fin 16) (k : Fin 16) :
    max (∑ n, if id n = k then (1 : EReal) else 0) 1 = ((cn id k : ℝ) : EReal) := by
  have h := seg_coe id (fun _ => 1) k
  simp only [EReal.coe_one] at h
  rw [h]
  unfold cn
  rw [coe_max, EReal.coe_one]
  rfl

/-! ## The attention is real -/

/-- The exponential of a real. -/
theorem exp_coe (r : ℝ) : Ideal.exp (r : EReal) = ((Real.exp r : ℝ) : EReal) := rfl

/-- A logistic lies between nought and one, at the infinities too. -/
theorem logistic_coe (x : EReal) : ((Ideal.logistic x).toReal : EReal) = Ideal.logistic x := by
  have key : ∃ r : ℝ, Ideal.logistic x = (r : EReal) := by
    induction x using EReal.rec with
    | bot =>
      refine ⟨0, ?_⟩
      have h : (1 : EReal) + Ideal.exp (-⊥) = ⊤ := by
        rw [EReal.neg_bot]; exact EReal.add_top_of_ne_bot (by decide)
      unfold Ideal.logistic
      rw [h]
      simp [Ideal.div]
    | top =>
      refine ⟨1, ?_⟩
      have h : (1 : EReal) + Ideal.exp (-⊤) = ((1 : ℝ) : EReal) := by
        rw [EReal.neg_top]; show (1 : EReal) + 0 = _; simp
      unfold Ideal.logistic
      rw [h, ← EReal.coe_one, coe_div _ _ one_ne_zero, div_one]
    | coe r =>
      have h : (1 : EReal) + Ideal.exp (-(r : EReal)) = ((1 + Real.exp (-r) : ℝ) : EReal) := by
        rw [← EReal.coe_neg, exp_coe, EReal.coe_add, EReal.coe_one]
      have h0 : (1 + Real.exp (-r) : ℝ) ≠ 0 := by positivity
      refine ⟨1 / (1 + Real.exp (-r)), ?_⟩
      unfold Ideal.logistic
      rw [h, ← EReal.coe_one, coe_div _ _ h0]
  obtain ⟨r, h⟩ := key
  rw [h, EReal.toReal_coe]

/-- The attention of real channels is real. -/
theorem att_coe (id : Fin 65536 → Fin 16) (y : Fin 65536 → Fin 128 → ℝ) (e : Fin 3 → EReal) (k : Fin 16) (c : Fin 128) :
    ((att id y e k c : ℝ) : EReal) = Ideal.logistic (conv id y e k c) := logistic_coe _

/-! ## The reciprocal root is real: the variance is not negative -/

/-- The divisor is at least one. -/
theorem cn_pos (id : Fin 65536 → Fin 16) (k : Fin 16) : 1 ≤ cn id k := le_max_right _ _

/-- A factor that depends on the instance only leaves an instance's sum. -/
theorem seg_mul (id : Fin 65536 → Fin 16) (a : Fin 16 → ℝ) (f : Fin 65536 → ℝ) (k : Fin 16) :
    seg id (fun n => f n * a (id n)) k = a k * seg id f k := by
  unfold seg
  rw [Finset.mul_sum]
  refine Finset.sum_congr rfl fun n _ => ?_
  split
  · next h => dsimp only; rw [h, mul_comm]
  · simp

/-- The mean of squares over a number at least the count is not less than the square of the mean over that number. -/
theorem spread_nonneg {ι : Type} (S : Finset ι) (z : ι → ℝ) (D : ℝ) (hc : (S.card : ℝ) ≤ D) (hD : 0 < D) :
    0 ≤ (∑ p ∈ S, z p ^ 2) / D - (∑ p ∈ S, z p) / D * ((∑ p ∈ S, z p) / D) := by
  obtain ⟨m, hm⟩ : ∃ m, m = (∑ p ∈ S, z p) / D := ⟨_, rfl⟩
  have hm' : ∑ p ∈ S, z p = m * D := by rw [hm, div_mul_cancel₀ _ hD.ne']
  have h0 : 0 ≤ ∑ p ∈ S, (z p - m) ^ 2 := Finset.sum_nonneg fun _ _ => sq_nonneg _
  have h3 : ∑ p ∈ S, (z p - m) ^ 2 = ∑ p ∈ S, z p ^ 2 - 2 * m * ∑ p ∈ S, z p + S.card * m ^ 2 := by
    rw [Finset.mul_sum, ← Finset.sum_sub_distrib, ← nsmul_eq_mul, ← Finset.sum_const, ← Finset.sum_add_distrib]
    exact Finset.sum_congr rfl fun _ _ => by ring
  rw [h3, hm'] at h0
  have h4 : (S.card : ℝ) * m ^ 2 ≤ D * m ^ 2 := mul_le_mul_of_nonneg_right hc (sq_nonneg m)
  rw [← hm, sub_nonneg, le_div_iff₀ hD]
  nlinarith

/-- A sum over a group's channels of sums over an instance's points is one sum over the pairs. -/
theorem sum_pairs {N : ℕ} (id : Fin N → Fin 16) (k : Fin 16) (a : Fin 4 → ℝ) (f : Fin N → Fin 4 → ℝ) :
    (∑ j : Fin 4, a j * ∑ n, if id n = k then f n j else 0)
      = ∑ p ∈ Finset.univ.filter (fun p : Fin N × Fin 4 => id p.1 = k), a p.2 * f p.1 p.2 := by
  rw [Finset.sum_filter, Fintype.sum_prod_type_right]
  refine Finset.sum_congr rfl fun j _ => ?_
  rw [Finset.mul_sum]
  exact Finset.sum_congr rfl fun n _ => by split <;> simp

/-- An instance's points times four channels. -/
theorem card_pairs {N : ℕ} (id : Fin N → Fin 16) (k : Fin 16) :
    ((Finset.univ.filter fun p : Fin N × Fin 4 => id p.1 = k).card : ℝ) = (∑ n, if id n = k then (1 : ℝ) else 0) * 4 := by
  have h := sum_pairs id k (fun _ => 1) (fun _ _ => 1)
  simp only [one_mul, Finset.sum_const, Finset.card_univ, Fintype.card_fin, nsmul_eq_mul, mul_one] at h
  rw [← h, mul_comm]
  norm_num

/-- A group's variance is not negative. -/
theorem var_nonneg (id : Fin 65536 → Fin 16) (y : Fin 65536 → Fin 128 → ℝ) (e : Fin 3 → EReal) (k : Fin 16) (g : Fin 32) :
    0 ≤ var id y e k g := by
  have hD : 0 < cn id k * 4 := mul_pos (lt_of_lt_of_le one_pos (cn_pos id k)) (by norm_num)
  have hc : ((Finset.univ.filter fun p : Fin 65536 × Fin 4 => id p.1 = k).card : ℝ) ≤ cn id k * 4 := by
    rw [card_pairs]
    exact mul_le_mul_of_nonneg_right (le_max_left _ _) (by norm_num)
  refine (spread_nonneg _ (fun p => att id y e k (chan g p.2) * y p.1 (chan g p.2)) _ hc hD).trans_eq ?_
  unfold var mean seg
  rw [sum_pairs id k (fun j => att id y e k (chan g j)) (fun n j => y n (chan g j)),
    sum_pairs id k (fun j => att id y e k (chan g j) * att id y e k (chan g j)) (fun n j => y n (chan g j) * y n (chan g j))]
  rw [Finset.sum_congr rfl fun p _ => (by ring : (att id y e k (chan g p.2) * y p.1 (chan g p.2)) ^ 2
    = att id y e k (chan g p.2) * att id y e k (chan g p.2) * (y p.1 (chan g p.2) * y p.1 (chan g p.2)))]

/-- The number added to a variance is a positive real. -/
theorem eps_pos : ∃ r : ℝ, 0 < r ∧ epsE = (r : EReal) := by
  refine ⟨_, ?_, by simp [epsE, Ideal.ofBits, Ideal.ieee]; rfl⟩
  positivity

/-- The reciprocal root of a group's variance is real. -/
theorem rstd_coe (id : Fin 65536 → Fin 16) (y : Fin 65536 → Fin 128 → ℝ) (e : Fin 3 → EReal) (k : Fin 16) (g : Fin 32) :
    ((rstd id y e k g : ℝ) : EReal) = Ideal.rsqrt ((var id y e k g : ℝ) + epsE) := by
  obtain ⟨r, hr, h⟩ := eps_pos
  have hv := var_nonneg id y e k g
  unfold rstd
  rw [h, ← EReal.coe_add]
  have hs : Ideal.rsqrt ((var id y e k g + r : ℝ) : EReal) = (((Real.sqrt (var id y e k g + r))⁻¹ : ℝ) : EReal) := by
    show (if _ then _ else if _ then _ else _) = _
    rw [if_neg (by linarith), if_neg (by linarith)]
  rw [hs, EReal.toReal_coe]

end Cert.Model

end
-- ==== Proof.RefValue.lean ====
/- One layer of the reference, read at an index over the extended reals, is the model's layer. -/
module

public import proofs.«01_k».proof.Proof.RefLayer
public import proofs.«01_k».proof.Proof.RefRead
public import proofs.«01_k».proof.Proof.Model

@[expose] public section

set_option maxRecDepth 16384

noncomputable section

namespace Cert.ReferenceIdeal.Layer

open Cert.ReferenceIdeal Cert.ReferenceIdeal.Gen Cert.ReferenceIdeal.Read Cert.Model
open Idealize.ShloMosaic Idealize.ShloMosaic.TcCoe

/-- The linear map at an index. -/
theorem tLin_apply (x : FVec Ideal S65536x128 .f32) (w : FVec Ideal S128x128 .f32) (b : FVec Ideal S128 .f32)
    (n : Fin 65536) (c : Fin 128) :
    tLin x w b (ix2 n c) = (∑ k : Fin 128, x (ix2 n k) * w (ix2 k c)) + b (ix1 c) := by
  pointwise [tLin]

section
variable (ids : IVec S65536 32) (id : Fin 65536 → Fin 16) (hid : ∀ n, ids (ix1 n) = BitVec.ofNat 32 (id n).val)
include hid

/-- The instance numbers as a column. -/
theorem sIdx_apply (n : Fin 65536) :
    broadcastInDim S65536x1 ![0] Facts₀.bcast_S65536_S65536x1_0 ids (ix2 n 0) = BitVec.ofNat 32 (id n).val := by
  pointwise
  exact hid n

/-- The row numbers of the look-ups are the instance numbers. -/
theorem tIdx_apply (n : Fin 65536) : tIdx ids (ix2 n 0) = BitVec.ofNat 32 (id n).val := by
  pointwise [tIdx]
  rw [hid]
  generalize id n = k
  revert k
  decide

/-- The counts, and at least one, are the model's. -/
theorem tCnt_apply (k : Fin 16) : tCnt (F := Ideal) ids (ix1 k) = ((cn id k : ℝ) : EReal) := by
  unfold tCnt
  rw [maximumf_apply, scatter1_apply _ _ _ id (sIdx_apply ids id hid)]
  pointwise
  exact cn_coe id k

variable (y : FVec Ideal S65536x128 .f32) (yr : Fin 65536 → Fin 128 → ℝ) (hy : ∀ n c, y (ix2 n c) = ((yr n c : ℝ) : EReal))
include hy

/-- The padded means: zero at both ends, the model's means between. -/
theorem tPad_apply (k : Fin 16) (j : Fin 130) :
    tPad y ids (ix2 k j) = if h : 1 ≤ j.val ∧ j.val < 129 then ((mu id yr k ⟨j.val - 1, by omega⟩ : ℝ) : EReal) else 0 := by
  pointwise [tPad]
  by_cases h : 1 ≤ j.val ∧ j.val < 129
  · rw [dif_pos h, dif_pos (⟨h.1, by omega⟩ : 1 ≤ j.val ∧ j.val - 1 < 128),
      scatter2_apply _ _ _ id (sIdx_apply ids id hid), tCnt_apply ids id hid]
    simp only [hy]
    rw [seg_coe]
    pointwise
    exact coe_div _ _ (ne_of_gt (lt_of_lt_of_le one_pos (cn_pos id k)))
  · rw [dif_neg h, dif_neg (fun h' => h ⟨h'.1, by omega⟩)]
    show (((0#32 : BitVec 32).toInt : ℝ) : EReal) = 0
    simp

variable (e : FVec Ideal S3 .f32)

/-- The attention table is the model's. -/
theorem tAtt_apply (k : Fin 16) (c : Fin 128) :
    tAtt y ids e (ix2 k c) = ((att id yr (fun i => e (ix1 i)) k c : ℝ) : EReal) := by
  pointwise [tAtt]
  rw [att_coe]
  unfold conv Ideal.logistic
  rw [tPad_apply ids id hid y yr hy, tPad_apply ids id hid y yr hy, tPad_apply ids id hid y yr hy]
  have h1 : (if h : 1 ≤ c.val ∧ c.val < 129 then ((mu id yr k ⟨c.val - 1, by omega⟩ : ℝ) : EReal) else 0)
      = if h : 1 ≤ c.val then ((mu id yr k ⟨c.val - 1, by omega⟩ : ℝ) : EReal) else 0 := by
    have := c.isLt
    by_cases h : 1 ≤ c.val
    · rw [dif_pos h, dif_pos ⟨h, by omega⟩]
    · rw [dif_neg h, dif_neg (fun h' => h h'.1)]
  have h2 : (if h : 1 ≤ 1 + c.val ∧ 1 + c.val < 129 then ((mu id yr k ⟨1 + c.val - 1, by omega⟩ : ℝ) : EReal) else 0)
      = ((mu id yr k c : ℝ) : EReal) := by
    have := c.isLt
    rw [dif_pos ⟨by omega, by omega⟩]
    congr 2
    exact Fin.ext (by show 1 + c.val - 1 = c.val; omega)
  have h3 : (if h : 1 ≤ 2 + c.val ∧ 2 + c.val < 129 then ((mu id yr k ⟨2 + c.val - 1, by omega⟩ : ℝ) : EReal) else 0)
      = if h : c.val < 127 then ((mu id yr k ⟨c.val + 1, by omega⟩ : ℝ) : EReal) else 0 := by
    have := c.isLt
    by_cases h : c.val < 127
    · rw [dif_pos h, dif_pos ⟨by omega, by omega⟩]
      congr 2
      exact Fin.ext (by show 2 + c.val - 1 = c.val + 1; omega)
    · rw [dif_neg h, dif_neg (fun h' => h (by omega))]
  rw [h1, h2, h3]

/-- The attended points in groups are the model's. -/
theorem tZ_apply (n : Fin 65536) (g : Fin 32) (j : Fin 4) :
    tZ y ids e (ix3 n g j) = ((yr n (chan g j) * att id yr (fun i => e (ix1 i)) (id n) (chan g j) : ℝ) : EReal) := by
  pointwise [tZ]
  rw [gather128_apply _ _ n _ (id n) (tIdx_apply ids id hid n), tAtt_apply ids id hid y yr hy e, hy, ← EReal.coe_mul]
  have hc : (⟨g.val * 4 + j.val, by omega⟩ : Fin 128) = chan g j := Fin.ext (by show g.val * 4 + j.val = 4 * g.val + j.val; omega)
  rw [hc]

/-- The groups' means are the model's. -/
theorem tMean_apply (k : Fin 16) (g : Fin 32) :
    tMean y ids e (ix2 k g) = ((mean id yr (fun i => e (ix1 i)) k g : ℝ) : EReal) := by
  pointwise [tMean, tDen]
  simp only [scatter3_apply _ _ _ id (sIdx_apply ids id hid), tZ_apply ids id hid y yr hy e]
  rw [tCnt_apply ids id hid, ofBits_four, ← EReal.coe_mul]
  have hs : ∀ c, seg id (fun n => yr n c * att id yr (fun i => e (ix1 i)) (id n) c) k
      = att id yr (fun i => e (ix1 i)) k c * seg id (fun n => yr n c) k :=
    fun c => seg_mul id (fun k => att id yr (fun i => e (ix1 i)) k c) (fun n => yr n c) k
  simp only [seg_coe, hs]
  pointwise
  rw [← coe_sum, coe_div _ _ (ne_of_gt (mul_pos (lt_of_lt_of_le one_pos (cn_pos id k)) (by norm_num)))]
  rfl

/-- The groups' variances are the model's. -/
theorem tVar_apply (k : Fin 16) (g : Fin 32) :
    tVar y ids e (ix2 k g) = ((var id yr (fun i => e (ix1 i)) k g : ℝ) : EReal) := by
  pointwise [tVar, tDen]
  simp only [scatter3_apply _ _ _ id (sIdx_apply ids id hid), mulf_apply, tZ_apply ids id hid y yr hy e,
    tMean_apply ids id hid y yr hy e, Ideal.mulf_def, ← EReal.coe_mul, seg_coe]
  have hs : ∀ c, seg id (fun n => yr n c * att id yr (fun i => e (ix1 i)) (id n) c * (yr n c * att id yr (fun i => e (ix1 i)) (id n) c)) k
      = att id yr (fun i => e (ix1 i)) k c * att id yr (fun i => e (ix1 i)) k c * seg id (fun n => yr n c * yr n c) k := by
    intro c
    rw [← seg_mul id (fun k => att id yr (fun i => e (ix1 i)) k c * att id yr (fun i => e (ix1 i)) k c)]
    exact congrArg (fun f => seg id f k) (funext fun n => by ring)
  simp only [hs]
  rw [tCnt_apply ids id hid, ofBits_four, ← EReal.coe_mul]
  pointwise
  rw [← coe_sum, coe_div _ _ (ne_of_gt (mul_pos (lt_of_lt_of_le one_pos (cn_pos id k)) (by norm_num))), ← EReal.coe_sub]
  rfl

/-- The layer's result is the model's. -/
theorem tOut_apply (g t : FVec Ideal S128 .f32) (γ : Fin 128 → ℝ) (hg : ∀ c, g (ix1 c) = ((γ c : ℝ) : EReal))
    (n : Fin 65536) (c : Fin 128) :
    tOut y ids e g t (ix2 n c) = out id yr (fun i => e (ix1 i)) γ (fun c => t (ix1 c)) n c := by
  pointwise [tOut]
  rw [gather32_apply _ _ n _ (id n) (tIdx_apply ids id hid n), gather32_apply _ _ n _ (id n) (tIdx_apply ids id hid n),
    tZ_apply ids id hid y yr hy e, tMean_apply ids id hid y yr hy e, tVar_apply ids id hid y yr hy e, hg, ← rstd_coe,
    ← EReal.coe_sub, ← EReal.coe_mul, ← EReal.coe_mul]
  have hc : chan ⟨c.val / 4, by omega⟩ ⟨c.val % 4, by omega⟩ = c :=
    Fin.ext (by show 4 * (c.val / 4) + c.val % 4 = c.val; omega)
  rw [hc]
  rfl

end

end Cert.ReferenceIdeal.Layer

end
-- ==== Proof.KerRead.lean ====
/- What the body's payloads hold, read at an index over the extended reals: the linear map, the running sums, the tables
   of one layer and the normalised block. -/
module

public import proofs.«01_k».proof.Proof.Traj
public import proofs.«01_k».proof.Proof.Model
public import Idealize.ShloMosaic.Lib.Pointwise

@[expose] public section

set_option maxRecDepth 16384

noncomputable section

namespace Cert.KernelIdeal.Read

open Cert.KernelIdeal.Gen Cert.KernelIdeal.Track Cert.Model
open Idealize.ShloMosaic Idealize.ShloMosaic.TcCoe

/-! ## Indicators -/

/-- A comparison made a number is one or nought. -/
theorem flag (a b : BitVec 32) :
    FloatOps.sitofp (F := Ideal) .f32 (BitVec.setWidth 32 (IntOp.cmpi .eq a b)) = if a = b then (1 : EReal) else 0 := by
  show (((BitVec.setWidth 32 (IntOp.cmpi .eq a b)).toInt : ℝ) : EReal) = _
  by_cases h : a = b
  · subst h
    have : BitVec.setWidth 32 (IntOp.cmpi .eq a a) = 1#32 := by simp [IntOp.cmpi]
    rw [this, if_pos rfl]
    show (((1 : ℤ) : ℝ) : EReal) = 1
    simp
  · have : BitVec.setWidth 32 (IntOp.cmpi .eq a b) = 0#32 := by simp [IntOp.cmpi, beq_eq_false_iff_ne.mpr h]
    rw [this, if_neg h]
    show (((0 : ℤ) : ℝ) : EReal) = 0
    simp

/-- Small numbers are told apart by their words. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A sum weighted by a one-hot indicator is its one term. -/
theorem sum_hot {N : ℕ} (i : Fin N) (f : Fin N → EReal) : ∑ k, (if i = k then (1 : EReal) else 0) * f k = f i := by
  simp only [ite_mul, one_mul, zero_mul, Finset.sum_ite_eq, Finset.mem_univ, if_true]

/-- A sum weighted by a group's indicator is the sum over the group's channels. -/
theorem sum_group (a : Fin 128 → EReal) (g : Fin 32) :
    ∑ x : Fin 128, a x * (if x.val / 4 = g.val then (1 : EReal) else 0) = ∑ j : Fin 4, a (chan g j) := by
  rw [← (finProdFinEquiv (m := 32) (n := 4)).sum_comp, Fintype.sum_prod_type, Finset.sum_eq_single g]
  · refine Finset.sum_congr rfl fun j _ => ?_
    have h1 : (finProdFinEquiv (m := 32) (n := 4) (g, j)) = chan g j := Fin.ext (by show j.val + 4 * g.val = 4 * g.val + j.val; omega)
    rw [h1, if_pos (show (chan g j).val / 4 = g.val by have := j.isLt; show (4 * g.val + j.val) / 4 = g.val; omega), mul_one]
  · intro b _ hb
    refine Finset.sum_eq_zero fun j _ => ?_
    rw [if_neg, mul_zero]
    show ¬ (j.val + 4 * b.val) / 4 = g.val
    have := j.isLt
    intro h
    exact hb (Fin.ext (by omega))
  · exact fun h => absurd (Finset.mem_univ g) h

/-- A sum weighted by the indicator of a channel's group is its one term. -/
theorem sum_grp (c : Fin 128) (f : Fin 32 → EReal) : ∑ x : Fin 32, f x * (if c.val / 4 = x.val then (1 : EReal) else 0) = f (grp c) := by
  rw [Finset.sum_eq_single (grp c)]
  · rw [if_pos (show c.val / 4 = (grp c).val from rfl), mul_one]
  · intro b _ hb
    rw [if_neg (fun h => hb (Fin.ext (show b.val = c.val / 4 from h.symm))), mul_zero]
  · exact fun h => absurd (Finset.mem_univ _) h

/-! ## The linear map and the running sums -/

/-- The first linear map of a block, at an index. -/
theorem pay14_apply (x : Vec Ideal S4096x128 .f32) (w : Vec Ideal S128x128 .f32) (b : Vec Ideal S1x128 .f32)
    (r : Fin 4096) (c : Fin 128) :
    k0_pay14 x w b (ix2 r c) = (∑ k : Fin 128, x (ix2 r k) * w (ix2 k c)) + b (ix2 0 c) := by
  pointwise [k0_pay14]

/-- The one-hot indicator of a block, at an index. -/
theorem pay4_apply (ids : Vec Ideal S4096x1 .i32) (r : Fin 4096) (i k : Fin 16) (h : ids (ix2 r 0) = BitVec.ofNat 32 i.val) :
    k0_pay4 (F := Ideal) ids (ix2 r k) = if i = k then (1 : EReal) else 0 := by
  pointwise [k0_pay4]
  refine (flag _ _).trans ?_
  rw [h]
  simp only [ofNat_inj (by omega : i.val < 2 ^ 32) (by omega : k.val < 2 ^ 32), Fin.ext_iff]

/-- The first phase adds to the sums what the block holds of an instance. -/
theorem pay17_apply (o : FVec Ideal S4096x16 .bf16) (x : Vec Ideal S4096x128 .f32) (w : Vec Ideal S128x128 .f32) (b : Vec Ideal S1x128 .f32)
    (s : Vec Ideal S16x128 .f32) (k : Fin 16) (c : Fin 128) :
    k0_pay17 o x w b s (ix2 k c) = s (ix2 k c) + ∑ r : Fin 4096, o (ix2 r k) * k0_pay14 x w b (ix2 r c) := by
  pointwise [k0_pay17, k0_pay16]

/-- The first phase adds to the sums of squares what the block holds of an instance. -/
theorem pay18_apply (o : FVec Ideal S4096x16 .bf16) (x : Vec Ideal S4096x128 .f32) (w : Vec Ideal S128x128 .f32) (b : Vec Ideal S1x128 .f32)
    (s : Vec Ideal S16x128 .f32) (k : Fin 16) (c : Fin 128) :
    k0_pay18 o x w b s (ix2 k c) = s (ix2 k c) + ∑ r : Fin 4096, o (ix2 r k) * (k0_pay14 x w b (ix2 r c) * k0_pay14 x w b (ix2 r c)) := by
  pointwise [k0_pay18, k0_pay16]

/-- The first phase adds to the counts the block's points of an instance. -/
theorem pay19_apply (o : FVec Ideal S4096x16 .bf16) (s : Vec Ideal S16x1 .f32) (k : Fin 16) :
    k0_pay5 (k0_pay19 o s) (ix2 k 0) = s (ix2 k 0) + ∑ r : Fin 4096, o (ix2 r k) * (1 : EReal) := by
  pointwise [k0_pay19, k0_pay5]

/-- The second phase adds to the sums what the block holds of an instance. -/
theorem pay35_apply (o : FVec Ideal S4096x16 .bf16) (y : Vec Ideal S4096x128 .f32) (a b : Vec Ideal S16x128 .f32)
    (w : Vec Ideal S128x128 .f32) (d : Vec Ideal S1x128 .f32) (s : Vec Ideal S16x128 .f32) (k : Fin 16) (c : Fin 128) :
    k0_pay35 o y a b w d s (ix2 k c) = s (ix2 k c) + ∑ r : Fin 4096, o (ix2 r k) * k0_pay32 o y a b w d (ix2 r c) := by
  pointwise [k0_pay35, k0_pay34]

/-- The second phase adds to the sums of squares what the block holds of an instance. -/
theorem pay10_apply (ids : Vec Ideal S4096x1 .i32) (o : FVec Ideal S4096x16 .bf16) (y : Vec Ideal S4096x128 .f32) (a b : Vec Ideal S16x128 .f32)
    (w : Vec Ideal S128x128 .f32) (d : Vec Ideal S1x128 .f32) (s : Vec Ideal S16x128 .f32) (k : Fin 16) (c : Fin 128) :
    k0_pay10 ids (k0_pay34 o y a b w d) s (ix2 k c)
      = s (ix2 k c) + ∑ r : Fin 4096, k0_pay4 (F := Ideal) ids (ix2 r k) * (k0_pay32 o y a b w d (ix2 r c) * k0_pay32 o y a b w d (ix2 r c)) := by
  pointwise [k0_pay10, k0_pay34]

/-! ## The normalised block -/

/-- The block written in the last phase, at an index. -/
theorem pay13_apply (ids : Vec Ideal S4096x1 .i32) (y : Vec Ideal S4096x128 .f32) (a b : Vec Ideal S16x128 .f32) (r : Fin 4096)
    (c : Fin 128) (i : Fin 16) (h : ids (ix2 r 0) = BitVec.ofNat 32 i.val) :
    k0_pay13 ids y a b (ix2 r c) = max (y (ix2 r c) * a (ix2 i c) + b (ix2 i c) : EReal) 0 := by
  pointwise [k0_pay13]
  simp only [pay4_apply ids r i _ h]
  rw [sum_hot i (fun k => a (ix2 k c)), sum_hot i (fun k => b (ix2 k c))]

/-- The second linear map of a block whose points' instances are known. -/
theorem pay32_apply (ids : Vec Ideal S4096x1 .i32) (y : Vec Ideal S4096x128 .f32) (a b : Vec Ideal S16x128 .f32)
    (w : Vec Ideal S128x128 .f32) (d : Vec Ideal S1x128 .f32) (r : Fin 4096)
    (c : Fin 128) (i : Fin 16) (h : ids (ix2 r 0) = BitVec.ofNat 32 i.val) :
    k0_pay32 (k0_pay4 ids) y a b w d (ix2 r c)
      = (∑ k : Fin 128, max (y (ix2 r k) * a (ix2 i k) + b (ix2 i k) : EReal) 0 * w (ix2 k c)) + d (ix2 0 c) := by
  pointwise [k0_pay32]
  simp only [pay4_apply ids r i _ h]
  simp only [sum_hot i (fun k => a (ix2 k _)), sum_hot i (fun k => b (ix2 k _))]

/-! ## The tables -/

/-- The group map. -/
def grpMap : FVec Ideal S128x32 .f32 := k0_pay25 (F := Ideal) (iota .tc S128x32 32 [0] iota_S128x32_d0_w32) 4#32 k0_pay24 0#32

/-- The printed membership matrix is `grpMap`. -/
theorem grpMap_eq : k0_pay25 (F := Ideal) (iota .tc S128x32 32 [0] iota_S128x32_d0_w32) 4#32 k0_pay24 0#32 = grpMap := rfl

/-- The group map: one where the channel lies in the group. -/
theorem grpMap_apply (c : Fin 128) (g : Fin 32) : grpMap (ix2 c g) = if c.val / 4 = g.val then (1 : EReal) else 0 := by
  unfold grpMap
  pointwise [k0_pay25, k0_pay24]
  refine (flag _ _).trans ?_
  have h : ∀ c : Fin 128, Scalar.select
            (IntOp.andi
              (IntOp.cmpi CmpIPredicate.ne
                (IntOp.subi (BitVec.setWidth 32 (IntOp.cmpi CmpIPredicate.sgt (BitVec.ofNat 32 ↑c) 0#32))
                  (BitVec.setWidth 32 (IntOp.cmpi CmpIPredicate.slt (BitVec.ofNat 32 ↑c) 0#32)))
                (Scalar.subi (Scalar.extui (Scalar.cmpi CmpIPredicate.sgt 4#32 0#32))
                  (Scalar.extui (Scalar.cmpi CmpIPredicate.slt 4#32 0#32))))
              (IntOp.cmpi CmpIPredicate.ne (IntOp.remsi ArithUnit.vector (BitVec.ofNat 32 ↑c) 4#32) 0#32))
            (IntOp.subi (IntOp.divsi ArithUnit.vector (BitVec.ofNat 32 ↑c) 4#32) 1#32)
            (IntOp.divsi ArithUnit.vector (BitVec.ofNat 32 ↑c) 4#32) = BitVec.ofNat 32 (c.val / 4) := by decide +kernel
  rw [h c]
  simp only [ofNat_inj (by omega : c.val / 4 < 2 ^ 32) (by omega : g.val < 2 ^ 32)]

/-- The divisor is the count and at least one. -/
theorem pay22_apply (cnt : Vec Ideal S16x1 .f32) (k : Fin 16) : k0_pay22 cnt (ix2 k 0) = max (cnt (ix2 k 0) : EReal) 1 := by
  pointwise [k0_pay22]

section Tables
variable (id : Fin 65536 → Fin 16) (yr : Fin 65536 → Fin 128 → ℝ)
variable (s1 s2 : Vec Ideal S16x128 .f32) (cnt : Vec Ideal S16x1 .f32)
variable (h1 : ∀ k c, s1 (ix2 k c) = ((seg id (fun n => yr n c) k : ℝ) : EReal))
variable (h2 : ∀ k c, s2 (ix2 k c) = ((seg id (fun n => yr n c * yr n c) k : ℝ) : EReal))
variable (hc : ∀ k, max (cnt (ix2 k 0) : EReal) 1 = ((cn id k : ℝ) : EReal))
variable (E : Fin 3 → EReal)

include h1 hc in
/-- The attention table. -/
theorem pay23_apply (k : Fin 16) (c : Fin 128) :
    k0_pay23 s1 cnt (E 0) (E 1) (E 2) (ix2 k c) = ((att id yr E k c : ℝ) : EReal) := by
  rw [att_coe]
  pointwise [k0_pay23, k0_pay22]
  have hm : ∀ x, Ideal.div (s1 (ix2 k x)) (max (cnt (ix2 k 0) : EReal) 1) = ((mu id yr k x : ℝ) : EReal) := by
    intro x
    rw [hc, h1]
    exact coe_div _ _ (ne_of_gt (lt_of_lt_of_le one_pos (cn_pos id k)))
  simp only [flag, hm]
  unfold conv
  have hl : (∑ x : Fin 128, ((mu id yr k x : ℝ) : EReal) * (if BitVec.ofNat 32 c.val = IntOp.addi (BitVec.ofNat 32 x.val) 1#32 then (1 : EReal) else 0))
      = if h : 1 ≤ c.val then ((mu id yr k ⟨c.val - 1, by omega⟩ : ℝ) : EReal) else 0 := by
    have hq : ∀ c x : Fin 128, BitVec.ofNat 32 c.val = IntOp.addi (BitVec.ofNat 32 x.val) 1#32 ↔ c.val = x.val + 1 := by decide +kernel
    simp only [hq]
    by_cases h : 1 ≤ c.val
    · rw [dif_pos h, Finset.sum_eq_single ⟨c.val - 1, by omega⟩]
      · rw [if_pos (by show c.val = c.val - 1 + 1; omega), mul_one]
      · intro b _ hb
        rw [if_neg (fun h' => hb (Fin.ext (by show b.val = c.val - 1; omega))), mul_zero]
      · exact fun h => absurd (Finset.mem_univ _) h
    · rw [dif_neg h]
      refine Finset.sum_eq_zero fun x _ => ?_
      rw [if_neg (by omega), mul_zero]
  have hr : (∑ x : Fin 128, ((mu id yr k x : ℝ) : EReal) * (if BitVec.ofNat 32 c.val = IntOp.subi (BitVec.ofNat 32 x.val) 1#32 then (1 : EReal) else 0))
      = if h : c.val < 127 then ((mu id yr k ⟨c.val + 1, by omega⟩ : ℝ) : EReal) else 0 := by
    have hq : ∀ c x : Fin 128, BitVec.ofNat 32 c.val = IntOp.subi (BitVec.ofNat 32 x.val) 1#32 ↔ c.val + 1 = x.val := by decide +kernel
    simp only [hq]
    by_cases h : c.val < 127
    · rw [dif_pos h, Finset.sum_eq_single ⟨c.val + 1, by omega⟩]
      · rw [if_pos rfl, mul_one]
      · intro b _ hb
        rw [if_neg (fun h' => hb (Fin.ext h'.symm)), mul_zero]
      · exact fun h => absurd (Finset.mem_univ _) h
    · rw [dif_neg h]
      refine Finset.sum_eq_zero fun x _ => ?_
      rw [if_neg (by have := x.isLt; omega), mul_zero]
  rw [hl, hr]

variable (at' : FVec Ideal S16x128 .f32) (ha : ∀ k c, at' (ix2 k c) = ((att id yr E k c : ℝ) : EReal))

include h1 hc ha in
/-- The groups' means. -/
theorem pay27_apply (k : Fin 16) (g : Fin 32) :
    k0_pay27 s1 (k0_pay22 cnt) at' (iota .tc S128x32 32 [0] iota_S128x32_d0_w32) 4#32 k0_pay24 0#32 (ix2 k g)
      = ((mean id yr E k g : ℝ) : EReal) := by
  unfold k0_pay27
  rw [grpMap_eq]
  pointwise [k0_pay26]
  simp only [grpMap_apply, pay22_apply]
  rw [sum_group (fun x => at' (ix2 k x) * s1 (ix2 k x)), hc, ofBits_four, ← EReal.coe_mul]
  simp only [ha, h1, ← EReal.coe_mul]
  rw [← coe_sum, coe_div _ _ (ne_of_gt (mul_pos (lt_of_lt_of_le one_pos (cn_pos id k)) (by norm_num)))]
  rfl

include h1 h2 hc ha in
/-- The groups' reciprocal roots, channel by channel. -/
theorem pay28_apply (k : Fin 16) (c : Fin 128) :
    k0_pay28 s1 s2 (k0_pay22 cnt) at' (iota .tc S128x32 32 [0] iota_S128x32_d0_w32) 4#32 k0_pay24 0#32 (ix2 k c)
      = ((rstd id yr E k (grp c) : ℝ) : EReal) := by
  have hm := pay27_apply id yr s1 cnt h1 hc E at' ha
  unfold k0_pay28
  rw [grpMap_eq]
  generalize k0_pay27 s1 (k0_pay22 cnt) at' (iota .tc S128x32 32 [0] iota_S128x32_d0_w32) 4#32 k0_pay24 0#32 = M at hm ⊢
  pointwise [k0_pay26]
  simp only [grpMap_apply, pay22_apply, hm]
  rw [sum_grp, sum_group (fun x => at' (ix2 k x) * at' (ix2 k x) * s2 (ix2 k x)), hc, ofBits_four, ← EReal.coe_mul]
  simp only [ha, h2, ← EReal.coe_mul]
  rw [← coe_sum, coe_div _ _ (ne_of_gt (mul_pos (lt_of_lt_of_le one_pos (cn_pos id k)) (by norm_num))), ← EReal.coe_sub,
    rstd_coe]
  rfl

variable (g t : Vec Ideal S1x128 .f32) (γ : Fin 128 → ℝ) (hg : ∀ c, g (ix2 0 c) = ((γ c : ℝ) : EReal))
variable (e : Vec Ideal S3 .f32)

include h1 h2 hc hg in
/-- The scale table. -/
theorem tabA_apply (k : Fin 16) (c : Fin 128) :
    tabA0 s1 s2 cnt e g (ix2 k c)
      = ((att id yr (fun i => cell e i) k c * rstd id yr (fun i => cell e i) k (grp c) * γ c : ℝ) : EReal) := by
  have ha : ∀ k c, k0_pay23 s1 cnt (cell e ⟨0, by decide⟩) (cell e ⟨1, by decide⟩) (cell e ⟨2, by decide⟩) (ix2 k c) = ((att id yr (fun i => cell e i) k c : ℝ) : EReal) :=
    pay23_apply id yr s1 cnt h1 hc (fun i => cell e i)
  have hr := pay28_apply id yr s1 s2 cnt h1 h2 hc (fun i => cell e i) _ ha
  unfold tabA0 k0_pay29
  generalize k0_pay28 s1 s2 (k0_pay22 cnt) (k0_pay23 s1 cnt (cell e ⟨0, by decide⟩) (cell e ⟨1, by decide⟩) (cell e ⟨2, by decide⟩)) (iota .tc S128x32 32 [0] iota_S128x32_d0_w32) 4#32 k0_pay24 0#32 = R at hr ⊢
  pointwise [k0_pay6, k0_pay20]
  rw [hr, hg, EReal.coe_mul, EReal.coe_mul]
  exact congrArg (fun q : EReal => q * _ * _) (ha k c)

include h1 h2 hc hg in
/-- The shift table. -/
theorem tabB_apply (k : Fin 16) (c : Fin 128) :
    tabB0 s1 s2 cnt e g t (ix2 k c)
      = t (ix2 0 c) - ((mean id yr (fun i => cell e i) k (grp c) * rstd id yr (fun i => cell e i) k (grp c) * γ c : ℝ) : EReal) := by
  have ha : ∀ k c, k0_pay23 s1 cnt (cell e ⟨0, by decide⟩) (cell e ⟨1, by decide⟩) (cell e ⟨2, by decide⟩) (ix2 k c) = ((att id yr (fun i => cell e i) k c : ℝ) : EReal) :=
    pay23_apply id yr s1 cnt h1 hc (fun i => cell e i)
  have hr := pay28_apply id yr s1 s2 cnt h1 h2 hc (fun i => cell e i) _ ha
  have hm := pay27_apply id yr s1 cnt h1 hc (fun i => cell e i) _ ha
  unfold tabB0 k0_pay30
  rw [grpMap_eq]
  generalize k0_pay28 s1 s2 (k0_pay22 cnt) (k0_pay23 s1 cnt (cell e ⟨0, by decide⟩) (cell e ⟨1, by decide⟩) (cell e ⟨2, by decide⟩)) (iota .tc S128x32 32 [0] iota_S128x32_d0_w32) 4#32 k0_pay24 0#32 = R at hr ⊢
  generalize k0_pay27 s1 (k0_pay22 cnt) (k0_pay23 s1 cnt (cell e ⟨0, by decide⟩) (cell e ⟨1, by decide⟩) (cell e ⟨2, by decide⟩)) (iota .tc S128x32 32 [0] iota_S128x32_d0_w32) 4#32 k0_pay24 0#32 = M at hm ⊢
  pointwise [k0_pay7, k0_pay31, k0_pay20, k0_pay21]
  simp only [grpMap_apply, hm]
  rw [sum_grp, hr, hg, EReal.coe_mul, EReal.coe_mul]

/-- The second layer's tables are the first's. -/
theorem tabA1_eq : tabA1 s1 s2 cnt e g = tabA0 s1 s2 cnt e g := rfl
/-- Both layers make the shift table by the same operations. -/
theorem tabB1_eq : tabB1 s1 s2 cnt e g t = tabB0 s1 s2 cnt e g t := rfl

end Tables

end Cert.KernelIdeal.Read

end
-- ==== Proof.KerValue.lean ====
/- What the kernel's trajectory holds, in the model's words: the first layer's blocks and sums, the second layer's, and the
   output's blocks, when the inputs' blocks are those of real features and weights and of instance numbers in range. -/
module

public import proofs.«01_k».proof.Proof.KerRead

@[expose] public section

set_option maxRecDepth 16384

noncomputable section

namespace Cert.KernelIdeal.Read

open Cert.KernelIdeal.Gen Cert.KernelIdeal.Track Cert.Model
open Idealize.ShloMosaic Idealize.ShloMosaic.TcCoe

/-- Row `r` of block `j`, the blocks counted round. -/
def row (j : ℕ) (r : Fin 4096) : Fin 65536 := ⟨(4096 * j + r.val) % 65536, Nat.mod_lt _ (by decide)⟩

/-- The rows of a block come around after sixteen blocks. -/
theorem row_add (j : ℕ) (r : Fin 4096) : row (j + 16) r = row j r := by
  unfold row
  exact Fin.ext (by show (4096 * (j + 16) + r.val) % 65536 = (4096 * j + r.val) % 65536; omega)

/-! ## Sums block by block -/

/-- The sum over an instance's points in the first `n` blocks. -/
def part (id : Fin 65536 → Fin 16) (f : Fin 65536 → ℝ) (k : Fin 16) (n : ℕ) : ℝ :=
  ∑ j ∈ Finset.range n, ∑ r : Fin 4096, if id (row j r) = k then f (row j r) else 0

/-- The sixteen blocks are all the points. -/
theorem sum_rows (F : Fin 65536 → ℝ) : ∑ j ∈ Finset.range 16, ∑ r : Fin 4096, F (row j r) = ∑ n, F n := by
  rw [← Fin.sum_univ_eq_sum_range (fun j => ∑ r : Fin 4096, F (row j r)) 16,
    ← (finProdFinEquiv (m := 16) (n := 4096)).sum_comp F, Fintype.sum_prod_type]
  refine Finset.sum_congr rfl fun j _ => Finset.sum_congr rfl fun r _ => congrArg F (Fin.ext ?_)
  have := j.isLt
  have := r.isLt
  show (4096 * j.val + r.val) % 65536 = r.val + 4096 * j.val
  omega

/-- The sum over all sixteen blocks is the sum over all points. -/
theorem part_all (id : Fin 65536 → Fin 16) (f : Fin 65536 → ℝ) (k : Fin 16) : part id f k 16 = seg id f k :=
  sum_rows (fun n => if id n = k then f n else 0)

/-- The sum over no block is zero. -/
theorem part_zero (id : Fin 65536 → Fin 16) (f : Fin 65536 → ℝ) (k : Fin 16) : ((part id f k 0 : ℝ) : EReal) = 0 := by
  unfold part
  rw [Finset.range_zero, Finset.sum_empty, EReal.coe_zero]

/-- One more block adds its rows, weighted by the indicator. -/
theorem part_step (id : Fin 65536 → Fin 16) (f : Fin 65536 → ℝ) (k : Fin 16) (n : ℕ) (o g : Fin 4096 → EReal)
    (ho : ∀ r, o r = if id (row n r) = k then (1 : EReal) else 0) (hg : ∀ r, g r = ((f (row n r) : ℝ) : EReal)) :
    ((part id f k n : ℝ) : EReal) + ∑ r : Fin 4096, o r * g r = ((part id f k (n + 1) : ℝ) : EReal) := by
  unfold part
  rw [Finset.sum_range_succ, EReal.coe_add, coe_sum (Finset.univ : Finset (Fin 4096))]
  refine congrArg _ (Finset.sum_congr rfl fun r _ => ?_)
  rw [ho, hg, coe_ite, ite_mul, one_mul, zero_mul]

/-! ## Zeros, and casts to the same shape -/

/-- The sums begin at zero. -/
theorem pay1_apply (k : Fin 16) (c : Fin 128) : k0_pay1 (F := Ideal) (ix2 k c) = (0 : EReal) := by
  pointwise [k0_pay1]

/-- The sums of squares begin at zero. -/
theorem pay2_apply (k : Fin 16) (c : Fin 128) : k0_pay2 (F := Ideal) (ix2 k c) = (0 : EReal) := by
  pointwise [k0_pay2]

/-- The counts begin at zero. -/
theorem pay3_apply (k : Fin 16) : k0_pay3 (F := Ideal) (ix2 k 0) = (0 : EReal) := by
  pointwise [k0_pay3]

/-- The sums begin again at zero. -/
theorem pay8_apply (k : Fin 16) (c : Fin 128) : k0_pay8 (F := Ideal) (ix2 k c) = (0 : EReal) := by
  pointwise [k0_pay8]

/-- The sums of squares begin again at zero. -/
theorem pay9_apply (k : Fin 16) (c : Fin 128) : k0_pay9 (F := Ideal) (ix2 k c) = (0 : EReal) := by
  pointwise [k0_pay9]

/-- The block stored in the first phase is the linear map. -/
theorem pay15_apply (x : Vec Ideal S4096x128 .f32) (w : Vec Ideal S128x128 .f32) (b : Vec Ideal S1x128 .f32) (r : Fin 4096)
    (c : Fin 128) : k0_pay15 x w b (ix2 r c) = k0_pay14 x w b (ix2 r c) := by
  pointwise [k0_pay15]

/-- The block stored in the second phase is the linear map. -/
theorem pay33_apply (o : FVec Ideal S4096x16 .bf16) (y : Vec Ideal S4096x128 .f32) (a b : Vec Ideal S16x128 .f32)
    (w : Vec Ideal S128x128 .f32) (d : Vec Ideal S1x128 .f32) (r : Fin 4096) (c : Fin 128) :
    k0_pay33 o y a b w d (ix2 r c) = k0_pay32 o y a b w d (ix2 r c) := by
  pointwise [k0_pay33]

/-! ## The layer from its tables -/

/-- The scale and shift tables apply the normalisation. -/
theorem tables_out (id : Fin 65536 → Fin 16) (y : Fin 65536 → Fin 128 → ℝ) (e : Fin 3 → EReal) (γ : Fin 128 → ℝ)
    (β : Fin 128 → EReal) (n : Fin 65536) (c : Fin 128) :
    max (((y n c : ℝ) : EReal) * ((att id y e (id n) c * rstd id y e (id n) (grp c) * γ c : ℝ) : EReal)
      + (β c - ((mean id y e (id n) (grp c) * rstd id y e (id n) (grp c) * γ c : ℝ) : EReal))) 0 = out id y e γ β n c := by
  unfold out core
  rw [sub_eq_add_neg, add_comm (β c), ← add_assoc, ← EReal.coe_neg, ← EReal.coe_mul, ← EReal.coe_add]
  refine congrArg (fun q : ℝ => max ((q : EReal) + β c) 0) ?_
  ring

/-- A sum of products of reals plus a real is the linear map. -/
theorem lin_coe (x : Fin 65536 → Fin 128 → ℝ) (w : Fin 128 → Fin 128 → ℝ) (b : Fin 128 → ℝ) (n : Fin 65536) (c : Fin 128) :
    (∑ k, ((x n k : ℝ) : EReal) * ((w k c : ℝ) : EReal)) + ((b c : ℝ) : EReal) = ((lin x w b n c : ℝ) : EReal) := by
  unfold lin
  rw [EReal.coe_add, coe_sum]
  simp only [EReal.coe_mul]

/-! ## The trajectory -/

/-- The inputs' blocks are those of instance numbers `id`, features `x` and the two layers' weights. -/
structure Reads (X : ℕ → Ins Ideal) (id : Fin 65536 → Fin 16) (x : Fin 65536 → Fin 128 → ℝ)
    (w0 : Fin 128 → Fin 128 → ℝ) (b0 : Fin 128 → ℝ) (E0 : Fin 3 → EReal) (g0 t0 : Fin 128 → ℝ)
    (w1 : Fin 128 → Fin 128 → ℝ) (b1 : Fin 128 → ℝ) (E1 : Fin 3 → EReal) (g1 : Fin 128 → ℝ) (t1 : Fin 128 → EReal) : Prop where
  ids : ∀ n r, n < 48 → (X n).ids (ix2 r 0) = BitVec.ofNat 32 (id (row n r)).val
  x : ∀ n r k, n < 16 → (X n).x (ix2 r k) = ((x (row n r) k : ℝ) : EReal)
  w0 : ∀ n k c, (X n).w0 (ix2 k c) = ((w0 k c : ℝ) : EReal)
  b0 : ∀ n c, (X n).b0 (ix2 0 c) = ((b0 c : ℝ) : EReal)
  e0 : ∀ n, (fun i => cell (X n).e0 i) = E0
  g0 : ∀ n c, (X n).g0 (ix2 0 c) = ((g0 c : ℝ) : EReal)
  t0 : ∀ n c, (X n).t0 (ix2 0 c) = ((t0 c : ℝ) : EReal)
  w1 : ∀ n k c, (X n).w1 (ix2 k c) = ((w1 k c : ℝ) : EReal)
  b1 : ∀ n c, (X n).b1 (ix2 0 c) = ((b1 c : ℝ) : EReal)
  e1 : ∀ n, (fun i => cell (X n).e1 i) = E1
  g1 : ∀ n c, (X n).g1 (ix2 0 c) = ((g1 c : ℝ) : EReal)
  t1 : ∀ n c, (X n).t1 (ix2 0 c) = t1 c

section Run
variable {X : ℕ → Ins Ideal} {id : Fin 65536 → Fin 16} {x : Fin 65536 → Fin 128 → ℝ}
  {w0 : Fin 128 → Fin 128 → ℝ} {b0 : Fin 128 → ℝ} {E0 : Fin 3 → EReal} {g0 t0 : Fin 128 → ℝ}
  {w1 : Fin 128 → Fin 128 → ℝ} {b1 : Fin 128 → ℝ} {E1 : Fin 3 → EReal} {g1 : Fin 128 → ℝ} {t1 : Fin 128 → EReal}
  (H : Reads X id x w0 b0 E0 g0 t0 w1 b1 E1 g1 t1)

include H

/-- The first layer's product at a row of a block. -/
theorem lin0 {j : ℕ} (hj : j < 16) (r : Fin 4096) (c : Fin 128) :
    k0_pay14 (X j).x (X j).w0 (X j).b0 (ix2 r c) = ((lin x w0 b0 (row j r) c : ℝ) : EReal) := by
  rw [pay14_apply]
  simp only [H.x j _ _ hj, H.w0, H.b0]
  exact lin_coe x w0 b0 (row j r) c

/-- The one-hot indicator of a block's instances. -/
theorem hot {n : ℕ} (hn : n < 48) (r : Fin 4096) (k : Fin 16) :
    k0_pay4 (F := Ideal) (X n).ids (ix2 r k) = if id (row n r) = k then (1 : EReal) else 0 :=
  pay4_apply _ r _ k (H.ids n r hn)

/-- The first layer's running sums. -/
theorem sums0_apply {n : ℕ} (hn : n ≤ 16) (k : Fin 16) :
    (∀ c, (sums0 X n).1 (ix2 k c) = ((part id (fun p => lin x w0 b0 p c) k n : ℝ) : EReal))
    ∧ (∀ c, (sums0 X n).2.1 (ix2 k c) = ((part id (fun p => lin x w0 b0 p c * lin x w0 b0 p c) k n : ℝ) : EReal))
    ∧ (sums0 X n).2.2 (ix2 k 0) = ((part id (fun _ => 1) k n : ℝ) : EReal) := by
  induction n with
  | zero =>
    simp only [part_zero]
    exact ⟨fun c => pay1_apply k c, fun c => pay2_apply k c, pay3_apply k⟩
  | succ n ih =>
    obtain ⟨i1, i2, i3⟩ := ih (by omega)
    refine ⟨fun c => (pay17_apply _ _ _ _ _ k c).trans ?_, fun c => (pay18_apply _ _ _ _ _ k c).trans ?_,
      (pay19_apply _ _ k).trans ?_⟩
    · rw [i1]
      exact part_step id _ k n _ _ (fun r => hot H (by omega) r k) (fun r => lin0 H (by omega) r c)
    · rw [i2]
      exact part_step id _ k n _ _ (fun r => hot H (by omega) r k)
        (fun r => by rw [lin0 H (by omega) r c, EReal.coe_mul])
    · rw [i3]
      exact part_step id _ k n _ _ (fun r => hot H (by omega) r k) (fun r => EReal.coe_one.symm)

/-- The counts after the first phase, and at least one, are the model's. -/
theorem cnt_apply (k : Fin 16) : max ((sums0 X 16).2.2 (ix2 k 0) : EReal) 1 = ((cn id k : ℝ) : EReal) := by
  rw [(sums0_apply H (le_refl 16) k).2.2, part_all, ← seg_coe, ← cn_coe]
  simp only [EReal.coe_one]

/-- The first layer's tables. -/
theorem A0_apply (k : Fin 16) (c : Fin 128) : A0 X (ix2 k c)
    = ((att id (lin x w0 b0) E0 k c * rstd id (lin x w0 b0) E0 k (grp c) * g0 c : ℝ) : EReal) := by
  have h := tabA_apply id (lin x w0 b0) (sums0 X 16).1 (sums0 X 16).2.1 (sums0 X 16).2.2
    (fun k c => by rw [(sums0_apply H (le_refl 16) k).1, part_all]) (fun k c => by rw [(sums0_apply H (le_refl 16) k).2.1, part_all])
    (cnt_apply H) (X 16).g0 g0 (H.g0 16) (X 16).e0 k c
  rw [H.e0] at h
  exact h

/-- The first layer's shift table at an index. -/
theorem B0_apply (k : Fin 16) (c : Fin 128) : B0 X (ix2 k c)
    = ((t0 c : ℝ) : EReal) - ((mean id (lin x w0 b0) E0 k (grp c) * rstd id (lin x w0 b0) E0 k (grp c) * g0 c : ℝ) : EReal) := by
  have h := tabB_apply id (lin x w0 b0) (sums0 X 16).1 (sums0 X 16).2.1 (sums0 X 16).2.2
    (fun k c => by rw [(sums0_apply H (le_refl 16) k).1, part_all]) (fun k c => by rw [(sums0_apply H (le_refl 16) k).2.1, part_all])
    (cnt_apply H) (X 16).g0 (X 16).t0 g0 (H.g0 16) (X 16).e0 k c
  rw [H.e0, H.t0] at h
  exact h

/-- The second layer's product at a row of a block. -/
theorem lin1 {j : ℕ} (hj : j < 16) (r : Fin 4096) (c : Fin 128) :
    k0_pay32 (k0_pay4 (X (j + 16)).ids) (y1 X j) (A0 X) (B0 X) (X (j + 16)).w1 (X (j + 16)).b1 (ix2 r c)
      = ((lin (outR id (lin x w0 b0) E0 g0 t0) w1 b1 (row j r) c : ℝ) : EReal) := by
  have hid : (X (j + 16)).ids (ix2 r 0) = BitVec.ofNat 32 (id (row j r)).val := by
    rw [H.ids (j + 16) r (by omega), row_add]
  rw [pay32_apply _ _ _ _ _ _ r c (id (row j r)) hid, ← lin_coe, H.b1]
  refine congrArg (· + _) (Finset.sum_congr rfl fun k _ => ?_)
  rw [H.w1, A0_apply H, B0_apply H, show y1 X j (ix2 r k) = ((lin x w0 b0 (row j r) k : ℝ) : EReal) from
    (pay15_apply _ _ _ r k).trans (lin0 H hj r k), tables_out id (lin x w0 b0) E0 g0 (fun c => ((t0 c : ℝ) : EReal)), out_real]

/-- The second layer's running sums. -/
theorem sums1_apply {n : ℕ} (hn : n ≤ 16) (k : Fin 16) (c : Fin 128) :
    (sums1 X n).1 (ix2 k c) = ((part id (fun p => lin (outR id (lin x w0 b0) E0 g0 t0) w1 b1 p c) k n : ℝ) : EReal)
    ∧ (sums1 X n).2 (ix2 k c) = ((part id (fun p => lin (outR id (lin x w0 b0) E0 g0 t0) w1 b1 p c
        * lin (outR id (lin x w0 b0) E0 g0 t0) w1 b1 p c) k n : ℝ) : EReal) := by
  induction n with
  | zero =>
    simp only [part_zero]
    exact ⟨pay8_apply k c, pay9_apply k c⟩
  | succ n ih =>
    obtain ⟨i1, i2⟩ := ih (by omega)
    have ho : ∀ r, k0_pay4 (F := Ideal) (X (n + 16)).ids (ix2 r k) = if id (row n r) = k then (1 : EReal) else 0 := fun r => by
      rw [hot H (by omega) r k, row_add]
    refine ⟨(pay35_apply _ _ _ _ _ _ _ k c).trans ?_, (pay10_apply _ _ _ _ _ _ _ _ k c).trans ?_⟩
    · rw [i1]
      exact part_step id _ k n _ _ ho (fun r => lin1 H (by omega) r c)
    · rw [i2]
      exact part_step id _ k n _ _ ho (fun r => by rw [lin1 H (by omega) r c, EReal.coe_mul])

/-- The output's block `j` is the second layer's result at its rows. -/
theorem outBlk_apply {j : ℕ} (hj : j < 16) (r : Fin 4096) (c : Fin 128) :
    outBlk X j (ix2 r c) = out id (lin (outR id (lin x w0 b0) E0 g0 t0) w1 b1) E1 g1 t1 (row j r) c := by
  have hid : (X (j + 32)).ids (ix2 r 0) = BitVec.ofNat 32 (id (row j r)).val := by
    rw [H.ids (j + 32) r (by omega), show j + 32 = j + 16 + 16 from rfl, row_add, row_add]
  have hA := tabA_apply id (lin (outR id (lin x w0 b0) E0 g0 t0) w1 b1) (sums1 X 16).1 (sums1 X 16).2 (sums0 X 16).2.2
    (fun k c => by rw [(sums1_apply H (le_refl 16) k c).1, part_all]) (fun k c => by rw [(sums1_apply H (le_refl 16) k c).2, part_all])
    (cnt_apply H) (X 32).g1 g1 (H.g1 32) (X 32).e1 (id (row j r)) c
  have hB := tabB_apply id (lin (outR id (lin x w0 b0) E0 g0 t0) w1 b1) (sums1 X 16).1 (sums1 X 16).2 (sums0 X 16).2.2
    (fun k c => by rw [(sums1_apply H (le_refl 16) k c).1, part_all]) (fun k c => by rw [(sums1_apply H (le_refl 16) k c).2, part_all])
    (cnt_apply H) (X 32).g1 (X 32).t1 g1 (H.g1 32) (X 32).e1 (id (row j r)) c
  rw [H.e1] at hA
  rw [H.e1, H.t1] at hB
  rw [← tabA1_eq] at hA
  rw [← tabB1_eq] at hB
  refine (pay13_apply _ _ _ _ r c (id (row j r)) hid).trans ?_
  rw [show A1 X (ix2 (id (row j r)) c) = _ from hA, show B1 X (ix2 (id (row j r)) c) = _ from hB,
    show y2 X j (ix2 r c) = ((lin (outR id (lin x w0 b0) E0 g0 t0) w1 b1 (row j r) c : ℝ) : EReal) from
      (pay33_apply _ _ _ _ _ _ r c).trans (lin1 H hj r c)]
  exact tables_out id _ E1 g1 t1 (row j r) c

end Run

end Cert.KernelIdeal.Read

end
-- ==== Proof.RefRun.lean ====
/- The reference's run: its result is the model's second layer of the first. -/
module

public import proofs.«01_k».proof.Proof.RefValue
public import proofs.«01_k».proof.Proof.KerValue

@[expose] public section

set_option maxRecDepth 16384

noncomputable section

namespace Cert.ReferenceIdeal.Layer

open Cert.ReferenceIdeal Cert.ReferenceIdeal.Gen Cert.Model
open Idealize.ShloMosaic Idealize.ShloMosaic.TcCoe Idealize.SL.Sem Idealize.ShloMosaic.StableHlo

/-- The linear map of real operands is real. -/
theorem tLin_real {X : FVec Ideal S65536x128 .f32} {W : FVec Ideal S128x128 .f32} {B : FVec Ideal S128 .f32}
    {x : Fin 65536 → Fin 128 → ℝ} {w : Fin 128 → Fin 128 → ℝ} {b : Fin 128 → ℝ}
    (hx : ∀ n k, X (ix2 n k) = ((x n k : ℝ) : EReal)) (hw : ∀ k j, W (ix2 k j) = ((w k j : ℝ) : EReal))
    (hb : ∀ j, B (ix1 j) = ((b j : ℝ) : EReal)) (n : Fin 65536) (j : Fin 128) :
    tLin X W B (ix2 n j) = ((lin x w b n j : ℝ) : EReal) := by
  rw [tLin_apply, hb, ← Cert.KernelIdeal.Read.lin_coe]
  congr 1
  exact Finset.sum_congr rfl fun k _ => by rw [hx, hw]

/-- The second layer at an index, when the instance numbers lie in range and the operands it multiplies are real. -/
theorem layer1_apply (V0 : Valuation τ sig (Elt Ideal)) {id : Fin 65536 → Fin 16} {x : Fin 65536 → Fin 128 → ℝ}
    {w0 w1 : Fin 128 → Fin 128 → ℝ} {b0 g0 t0 b1 g1 : Fin 128 → ℝ}
    (hids : ∀ n, V0 (Proc.devRef .tc main_arg1) (ix1 n) = BitVec.ofNat 32 (id n).val)
    (hx : ∀ n k, V0 (Proc.devRef .tc main_arg0) (ix2 n k) = ((x n k : ℝ) : EReal))
    (hw0 : ∀ k j, V0 (Proc.devRef .tc main_arg2) (ix2 k j) = ((w0 k j : ℝ) : EReal))
    (hb0 : ∀ j, V0 (Proc.devRef .tc main_arg3) (ix1 j) = ((b0 j : ℝ) : EReal))
    (hg0 : ∀ j, V0 (Proc.devRef .tc main_arg5) (ix1 j) = ((g0 j : ℝ) : EReal))
    (ht0 : ∀ j, V0 (Proc.devRef .tc main_arg6) (ix1 j) = ((t0 j : ℝ) : EReal))
    (hw1 : ∀ k j, V0 (Proc.devRef .tc main_arg7) (ix2 k j) = ((w1 k j : ℝ) : EReal))
    (hb1 : ∀ j, V0 (Proc.devRef .tc main_arg8) (ix1 j) = ((b1 j : ℝ) : EReal))
    (hg1 : ∀ j, V0 (Proc.devRef .tc main_arg10) (ix1 j) = ((g1 j : ℝ) : EReal)) (n : Fin 65536) (j : Fin 128) :
    layer1 V0 (ix2 n j) =
      out id (lin (outR id (lin x w0 b0) (fun i => V0 (Proc.devRef .tc main_arg4) (ix1 i)) g0 t0) w1 b1)
        (fun i => V0 (Proc.devRef .tc main_arg9) (ix1 i)) g1 (fun j => V0 (Proc.devRef .tc main_arg11) (ix1 j)) n j := by
  refine tOut_apply _ id hids _ _ (tLin_real (fun n k => ?_) hw1 hb1) _ _ _ g1 hg1 n j
  refine (tOut_apply _ id hids _ _ (tLin_real hx hw0 hb0) _ _ _ g0 hg0 n k).trans ?_
  rw [← out_real]
  exact congrArg (fun T => out id (lin x w0 b0) _ g0 T n k) (funext ht0)

/-- Every run of the reference ends with the second layer of its arguments and the arguments as they began. -/
theorem run_layer1 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v189) = layer1 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (result_eq (launchContents m c)), (h c).2⟩)
    (Cert.ReferenceIdeal.Value.run (F := Ideal) m ρ)

end Cert.ReferenceIdeal.Layer

end
-- ==== Proof.KerBlocks.lean ====
/- The inputs' blocks read at an index of the arguments, and the output array after the run. -/
module

public import proofs.«01_k».proof.Proof.Body
public import proofs.«01_k».proof.Proof.KerValue
public import Idealize.ShloMosaic.Lib.Pipeline.ValueKit.Point

@[expose] public section

set_option maxRecDepth 16384

noncomputable section

namespace Cert.KernelIdeal.Blocks

open Cert.KernelIdeal.Gen Cert.KernelIdeal.Track Cert.KernelIdeal.Read Cert.Model
open Idealize.ShloMosaic Idealize.ShloMosaic.TcCoe
open Idealize.SL Idealize.SL.Sem
open Idealize.ShloMosaic.Pipeline (Dat Cfg Window)

variable (m : (ℓ : Loc nD τ sig) → Buf (Elt Ideal) ℓ) (c : Dev nD)

/-- Which block of the features a step takes. -/
theorem idx0 : ∀ t : Fin cfg0.N, win0_0.index t = ![min t.val 15, 0] :=
  (by decide +kernel : ∀ t : Fin grid0.N, win0_0.index t = ![min t.val 15, 0])
/-- Which block of the instance numbers a step takes. -/
theorem idx1 : ∀ t : Fin cfg0.N, win0_1.index t = ![t.val % 16, 0] :=
  (by decide +kernel : ∀ t : Fin grid0.N, win0_1.index t = ![t.val % 16, 0])
/-- Which block of the first weights a step takes. -/
theorem idx2 : ∀ t : Fin cfg0.N, win0_2.index t = ![0, 0] :=
  (by decide +kernel : ∀ t : Fin grid0.N, win0_2.index t = ![0, 0])
/-- Which block of the first bias a step takes. -/
theorem idx3 : ∀ t : Fin cfg0.N, win0_3.index t = ![0, 0] :=
  (by decide +kernel : ∀ t : Fin grid0.N, win0_3.index t = ![0, 0])
/-- Which block of the first attention weights a step takes. -/
theorem idx4 : ∀ t : Fin cfg0.N, win0_4.index t = ![0] :=
  (by decide +kernel : ∀ t : Fin grid0.N, win0_4.index t = ![0])
/-- Which block of the first scale a step takes. -/
theorem idx5 : ∀ t : Fin cfg0.N, win0_5.index t = ![0, 0] :=
  (by decide +kernel : ∀ t : Fin grid0.N, win0_5.index t = ![0, 0])
/-- Which block of the first shift a step takes. -/
theorem idx6 : ∀ t : Fin cfg0.N, win0_6.index t = ![0, 0] :=
  (by decide +kernel : ∀ t : Fin grid0.N, win0_6.index t = ![0, 0])
/-- Which block of the second weights a step takes. -/
theorem idx7 : ∀ t : Fin cfg0.N, win0_7.index t = ![0, 0] :=
  (by decide +kernel : ∀ t : Fin grid0.N, win0_7.index t = ![0, 0])
/-- Which block of the second bias a step takes. -/
theorem idx8 : ∀ t : Fin cfg0.N, win0_8.index t = ![0, 0] :=
  (by decide +kernel : ∀ t : Fin grid0.N, win0_8.index t = ![0, 0])
/-- Which block of the second attention weights a step takes. -/
theorem idx9 : ∀ t : Fin cfg0.N, win0_9.index t = ![0] :=
  (by decide +kernel : ∀ t : Fin grid0.N, win0_9.index t = ![0])
/-- Which block of the second scale a step takes. -/
theorem idx10 : ∀ t : Fin cfg0.N, win0_10.index t = ![0, 0] :=
  (by decide +kernel : ∀ t : Fin grid0.N, win0_10.index t = ![0, 0])
/-- Which block of the second shift a step takes. -/
theorem idx11 : ∀ t : Fin cfg0.N, win0_11.index t = ![0, 0] :=
  (by decide +kernel : ∀ t : Fin grid0.N, win0_11.index t = ![0, 0])
/-- Which block of the output a step takes. -/
theorem idx12 : ∀ t : Fin cfg0.N, win0_12.index t = ![t.val - 32, 0] :=
  (by decide +kernel : ∀ t : Fin grid0.N, win0_12.index t = ![t.val - 32, 0])

/-- The features' block at an index. -/
theorem x_apply (t : Fin cfg0.N) (ht : t.val < 16) (r : Fin 4096) (k : Fin 128) :
    (iblk m c 0 t : Vec Ideal S4096x128 .f32) (ix2 r k) = m ((c : Thread nD τ).loc main_arg0) (ix2 (row t.val r) k) := by
  have hr : ((row t.val r : Fin 65536) : ℕ) = 4096 * t.val + r.val := Nat.mod_eq_of_lt (by omega)
  blk_ext! [iblk, V, idx0 t, hr]

/-- The instance numbers' block at an index. -/
theorem ids_apply (t : Fin cfg0.N) (r : Fin 4096) :
    (iblk m c 1 t : Vec Ideal S4096x1 .i32) (ix2 r 0) = m ((c : Thread nD τ).loc main_arg1) (ix1 (row t.val r)) := by
  have ht : t.val < 48 := lt_of_lt_of_eq t.isLt N_0
  have hr : ((row t.val r : Fin 65536) : ℕ) = 4096 * (t.val % 16) + r.val := by
    show (4096 * t.val + r.val) % 65536 = _
    omega
  blk_ext! [iblk, V, idx1 t, hr]

/-- The first weights at an index. -/
theorem w0_apply (t : Fin cfg0.N) (k j : Fin 128) :
    (iblk m c 2 t : Vec Ideal S128x128 .f32) (ix2 k j) = m ((c : Thread nD τ).loc main_arg2) (ix2 k j) := by
  blk_ext! [iblk, V, idx2 t]

/-- The first bias at an index. -/
theorem b0_apply (t : Fin cfg0.N) (j : Fin 128) :
    (iblk m c 3 t : Vec Ideal S1x128 .f32) (ix2 0 j) = m ((c : Thread nD τ).loc main_arg3) (ix1 j) := by
  blk_ext! [iblk, V, idx3 t]

/-- The first attention weights at an index. -/
theorem e0_apply (t : Fin cfg0.N) (j : Fin 3) :
    cell (F := Ideal) (iblk m c 4 t : Vec Ideal S3 .f32) j = m ((c : Thread nD τ).loc main_arg4) (ix1 j) := by
  unfold cell
  blk_ext! [iblk, V, idx4 t]

/-- The first scale at an index. -/
theorem g0_apply (t : Fin cfg0.N) (j : Fin 128) :
    (iblk m c 5 t : Vec Ideal S1x128 .f32) (ix2 0 j) = m ((c : Thread nD τ).loc main_arg5) (ix1 j) := by
  blk_ext! [iblk, V, idx5 t]

/-- The first shift at an index. -/
theorem t0_apply (t : Fin cfg0.N) (j : Fin 128) :
    (iblk m c 6 t : Vec Ideal S1x128 .f32) (ix2 0 j) = m ((c : Thread nD τ).loc main_arg6) (ix1 j) := by
  blk_ext! [iblk, V, idx6 t]

/-- The second weights at an index. -/
theorem w1_apply (t : Fin cfg0.N) (k j : Fin 128) :
    (iblk m c 7 t : Vec Ideal S128x128 .f32) (ix2 k j) = m ((c : Thread nD τ).loc main_arg7) (ix2 k j) := by
  blk_ext! [iblk, V, idx7 t]

/-- The second bias at an index. -/
theorem b1_apply (t : Fin cfg0.N) (j : Fin 128) :
    (iblk m c 8 t : Vec Ideal S1x128 .f32) (ix2 0 j) = m ((c : Thread nD τ).loc main_arg8) (ix1 j) := by
  blk_ext! [iblk, V, idx8 t]

/-- The second attention weights at an index. -/
theorem e1_apply (t : Fin cfg0.N) (j : Fin 3) :
    cell (F := Ideal) (iblk m c 9 t : Vec Ideal S3 .f32) j = m ((c : Thread nD τ).loc main_arg9) (ix1 j) := by
  unfold cell
  blk_ext! [iblk, V, idx9 t]

/-- The second scale at an index. -/
theorem g1_apply (t : Fin cfg0.N) (j : Fin 128) :
    (iblk m c 10 t : Vec Ideal S1x128 .f32) (ix2 0 j) = m ((c : Thread nD τ).loc main_arg10) (ix1 j) := by
  blk_ext! [iblk, V, idx10 t]

/-- The second shift at an index. -/
theorem t1_apply (t : Fin cfg0.N) (j : Fin 128) :
    (iblk m c 11 t : Vec Ideal S1x128 .f32) (ix2 0 j) = m ((c : Thread nD τ).loc main_arg11) (ix1 j) := by
  blk_ext! [iblk, V, idx11 t]

/-! ## The output -/

variable {m c}
variable {id : Fin 65536 → Fin 16} {x : Fin 65536 → Fin 128 → ℝ}
  {w0 : Fin 128 → Fin 128 → ℝ} {b0 : Fin 128 → ℝ} {E0 : Fin 3 → EReal} {g0 t0 : Fin 128 → ℝ}
  {w1 : Fin 128 → Fin 128 → ℝ} {b1 : Fin 128 → ℝ} {E1 : Fin 3 → EReal} {g1 : Fin 128 → ℝ} {t1 : Fin 128 → EReal}

/-- Arguments that hold instance numbers in range and real features and weights give the blocks the trajectory asks for. -/
theorem reads_of
    (hids : ∀ n, m ((c : Thread nD τ).loc main_arg1) (ix1 n) = BitVec.ofNat 32 (id n).val)
    (hx : ∀ n k, m ((c : Thread nD τ).loc main_arg0) (ix2 n k) = ((x n k : ℝ) : EReal))
    (hw0 : ∀ k j, m ((c : Thread nD τ).loc main_arg2) (ix2 k j) = ((w0 k j : ℝ) : EReal))
    (hb0 : ∀ j, m ((c : Thread nD τ).loc main_arg3) (ix1 j) = ((b0 j : ℝ) : EReal))
    (hg0 : ∀ j, m ((c : Thread nD τ).loc main_arg5) (ix1 j) = ((g0 j : ℝ) : EReal))
    (ht0 : ∀ j, m ((c : Thread nD τ).loc main_arg6) (ix1 j) = ((t0 j : ℝ) : EReal))
    (hw1 : ∀ k j, m ((c : Thread nD τ).loc main_arg7) (ix2 k j) = ((w1 k j : ℝ) : EReal))
    (hb1 : ∀ j, m ((c : Thread nD τ).loc main_arg8) (ix1 j) = ((b1 j : ℝ) : EReal))
    (hg1 : ∀ j, m ((c : Thread nD τ).loc main_arg10) (ix1 j) = ((g1 j : ℝ) : EReal)) :
    Reads (ins m c) id x w0 b0 (fun i => m ((c : Thread nD τ).loc main_arg4) (ix1 i)) g0 t0 w1 b1
      (fun i => m ((c : Thread nD τ).loc main_arg9) (ix1 i)) g1 (fun j => m ((c : Thread nD τ).loc main_arg11) (ix1 j)) where
  ids n r hn := (ids_apply m c (pt n) r).trans (by rw [hids, pt_val hn])
  x n r k hn := (x_apply m c (pt n) (by rw [pt_val (by omega)]; exact hn) r k).trans (by rw [hx, pt_val (by omega)])
  w0 n k j := (w0_apply m c (pt n) k j).trans (hw0 k j)
  b0 n j := (b0_apply m c (pt n) j).trans (hb0 j)
  e0 n := funext fun i => e0_apply m c (pt n) i
  g0 n j := (g0_apply m c (pt n) j).trans (hg0 j)
  t0 n j := (t0_apply m c (pt n) j).trans (ht0 j)
  w1 n k j := (w1_apply m c (pt n) k j).trans (hw1 k j)
  b1 n j := (b1_apply m c (pt n) j).trans (hb1 j)
  e1 n := funext fun i => e1_apply m c (pt n) i
  g1 n j := (g1_apply m c (pt n) j).trans (hg1 j)
  t1 n j := t1_apply m c (pt n) j

/-- The written blocks cover the output. -/
theorem covers12 : win0_12.Covers := by decide +kernel

/-- The output array after the run, when every block written is `G`'s. -/
theorem final (G : Fin 65536 → Fin 128 → EReal) (V7 : Vec Ideal S65536x128 .f32)
    (h7 : ∀ n j, V7 (ix2 n j) = G n j) (hG : ∀ j < 16, ∀ r k, outBlk (ins m c) j (ix2 r k) = G (row j r) k) :
    (dats m 0 c).arrAt 12 cfg0.N = V7 := by
  refine (dats m 0 c).arrAt_eq_of_covers 12 _ covers12 fun t hf y => ?_
  have h48 : t.val < 48 := lt_of_lt_of_eq t.isLt N_0
  have h32 : ¬ t.val < 32 := fun h => by rw [noFlush_12 t h] at hf; exact Bool.noConfusion hf
  blk_simp
  rw [after_12]
  have hy : ∃ (r : Fin 4096) (k : Fin 128), y = ix2 r k := ⟨y 0, y 1, by funext a; match a with | ⟨0, _⟩ => rfl | ⟨1, _⟩ => rfl⟩
  obtain ⟨r, k, rfl⟩ := hy
  have hr : ((row (t.val - 32) r : Fin 65536) : ℕ) = 4096 * (t.val - 32) + r.val := Nat.mod_eq_of_lt (by omega)
  refine (hG (t.val - 32) (by omega) r k).trans ((h7 (row (t.val - 32) r) k).symm.trans (congrArg V7 ?_))
  blk_ext [idx12 t, hr]

end Cert.KernelIdeal.Blocks

end
-- ==== Proof.Value.lean ====
/- The kernel and the reference end with the same array, from equal arguments within the precondition. -/
module

public import proofs.«01_k».proof.Defs
public import proofs.«01_k».proof.Proof.Precond
public import proofs.«01_k».proof.Proof.RefRun
public import proofs.«01_k».proof.Proof.KerBlocks
public import Idealize.ShloMosaic.Lib.Claim

@[expose] public section

set_option maxRecDepth 16384

noncomputable section

namespace Cert.Value

open Cert.Model Idealize.ShloMosaic Idealize.ShloMosaic.TcCoe Idealize.SL.Sem Idealize.ShloMosaic.StableHlo

attribute [local instance] Cert.KernelIdeal.Gen.facts Cert.ReferenceIdeal.Gen.facts Cert.Precond.facts

/-- Within the precondition the instance numbers are numbers below 16 and the other arguments it names are real. -/
theorem args_of (m : (ℓ : Loc Cert.KernelIdeal.nD Cert.KernelIdeal.τ Cert.KernelIdeal.sig) → Buf (Elt Ideal) ℓ)
    (h : Cert.Pre_KernelIdeal_finite_in_range m) (c : Dev Cert.KernelIdeal.nD) :
    ∃ (id : Fin 65536 → Fin 16) (x : Fin 65536 → Fin 128 → ℝ) (w0 w1 : Fin 128 → Fin 128 → ℝ) (b0 g0 t0 b1 g1 : Fin 128 → ℝ),
      (∀ n, m ((c.tc : Thread Cert.KernelIdeal.nD Cert.KernelIdeal.τ).loc Cert.KernelIdeal.main_arg1) (ix1 n) = BitVec.ofNat 32 (id n).val)
      ∧ (∀ n k, m ((c.tc : Thread Cert.KernelIdeal.nD Cert.KernelIdeal.τ).loc Cert.KernelIdeal.main_arg0) (ix2 n k) = ((x n k : ℝ) : EReal))
      ∧ (∀ k j, m ((c.tc : Thread Cert.KernelIdeal.nD Cert.KernelIdeal.τ).loc Cert.KernelIdeal.main_arg2) (ix2 k j) = ((w0 k j : ℝ) : EReal))
      ∧ (∀ j, m ((c.tc : Thread Cert.KernelIdeal.nD Cert.KernelIdeal.τ).loc Cert.KernelIdeal.main_arg3) (ix1 j) = ((b0 j : ℝ) : EReal))
      ∧ (∀ j, m ((c.tc : Thread Cert.KernelIdeal.nD Cert.KernelIdeal.τ).loc Cert.KernelIdeal.main_arg5) (ix1 j) = ((g0 j : ℝ) : EReal))
      ∧ (∀ j, m ((c.tc : Thread Cert.KernelIdeal.nD Cert.KernelIdeal.τ).loc Cert.KernelIdeal.main_arg6) (ix1 j) = ((t0 j : ℝ) : EReal))
      ∧ (∀ k j, m ((c.tc : Thread Cert.KernelIdeal.nD Cert.KernelIdeal.τ).loc Cert.KernelIdeal.main_arg7) (ix2 k j) = ((w1 k j : ℝ) : EReal))
      ∧ (∀ j, m ((c.tc : Thread Cert.KernelIdeal.nD Cert.KernelIdeal.τ).loc Cert.KernelIdeal.main_arg8) (ix1 j) = ((b1 j : ℝ) : EReal))
      ∧ (∀ j, m ((c.tc : Thread Cert.KernelIdeal.nD Cert.KernelIdeal.τ).loc Cert.KernelIdeal.main_arg10) (ix1 j) = ((g1 j : ℝ) : EReal)) := by
  obtain ⟨hx, hi0, hi1, hw0, hb0, hg0, ht0, hw1, hb1, hg1⟩ := h c
  exact ⟨fun n => ⟨_ % 16, Nat.mod_lt _ (by decide)⟩, fun n k => _, fun k j => _, fun k j => _, fun j => _, fun j => _,
    fun j => _, fun j => _, fun j => _,
    fun n => Cert.Precond.word_of _ _ hi0 hi1 (ix1 n), fun n k => Cert.Precond.real_of _ _ hx (ix2 n k),
    fun k j => Cert.Precond.real_of _ _ hw0 (ix2 k j), fun j => Cert.Precond.real_of _ _ hb0 (ix1 j),
    fun j => Cert.Precond.real_of _ _ hg0 (ix1 j), fun j => Cert.Precond.real_of _ _ ht0 (ix1 j),
    fun k j => Cert.Precond.real_of _ _ hw1 (ix2 k j), fun j => Cert.Precond.real_of _ _ hb1 (ix1 j),
    fun j => Cert.Precond.real_of _ _ hg1 (ix1 j)⟩

open Cert.ReferenceIdeal.Layer in
/-- The kernel's output array is the reference's second layer, when the arguments are equal and within the precondition. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite_in_range m) (c : Dev Cert.KernelIdeal.nD)
    (heq : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.KernelIdeal.Track.dats m 0 c).arrAt 12 Cert.KernelIdeal.cfg0.N = layer1 (F := Ideal) (launchContents m' c) := by
  obtain ⟨id, x, w0, w1, b0, g0, t0, b1, g1, hids, hx, hw0, hb0, hg0, ht0, hw1, hb1, hg1⟩ := args_of m h c
  obtain ⟨e0, e1, e2, e3, e4, e5, e6, e7, e8, e9, e10, e11⟩ := heq
  have H := Cert.KernelIdeal.Blocks.reads_of hids hx hw0 hb0 hg0 ht0 hw1 hb1 hg1
  have h7 := layer1_apply (launchContents m' c) (fun n => (congrFun e1 (ix1 n)).trans (hids n))
    (fun n k => (congrFun e0 (ix2 n k)).trans (hx n k)) (fun k j => (congrFun e2 (ix2 k j)).trans (hw0 k j))
    (fun j => (congrFun e3 (ix1 j)).trans (hb0 j)) (fun j => (congrFun e5 (ix1 j)).trans (hg0 j))
    (fun j => (congrFun e6 (ix1 j)).trans (ht0 j)) (fun k j => (congrFun e7 (ix2 k j)).trans (hw1 k j))
    (fun j => (congrFun e8 (ix1 j)).trans (hb1 j)) (fun j => (congrFun e10 (ix1 j)).trans (hg1 j))
  have E0 : (fun i => m ((c.tc : Thread Cert.KernelIdeal.nD Cert.KernelIdeal.τ).loc Cert.KernelIdeal.main_arg4) (ix1 i)) = fun i : Fin 3 => m' ((c.tc : Thread Cert.ReferenceIdeal.nD Cert.ReferenceIdeal.τ).loc Cert.ReferenceIdeal.main_arg4) (ix1 i) := funext fun i => (congrFun e4 (ix1 i)).symm
  have E1 : (fun i => m ((c.tc : Thread Cert.KernelIdeal.nD Cert.KernelIdeal.τ).loc Cert.KernelIdeal.main_arg9) (ix1 i)) = fun i : Fin 3 => m' ((c.tc : Thread Cert.ReferenceIdeal.nD Cert.ReferenceIdeal.τ).loc Cert.ReferenceIdeal.main_arg9) (ix1 i) := funext fun i => (congrFun e9 (ix1 i)).symm
  have T1 : (fun j => m ((c.tc : Thread Cert.KernelIdeal.nD Cert.KernelIdeal.τ).loc Cert.KernelIdeal.main_arg11) (ix1 j)) = fun j : Fin 128 => m' ((c.tc : Thread Cert.ReferenceIdeal.nD Cert.ReferenceIdeal.τ).loc Cert.ReferenceIdeal.main_arg11) (ix1 j) := funext fun j => (congrFun e11 (ix1 j)).symm
  rw [E0, E1, T1] at H
  exact Cert.KernelIdeal.Blocks.final _ _ h7 fun j hj r k => Cert.KernelIdeal.Read.outBlk_apply H hj r k

/-- From equal arguments within the precondition the kernel and the reference end with the same array. -/
theorem algebraic : Cert.algebraic_KernelIdeal_ReferenceIdeal_pre_finite_in_range := fun m g m' g' hpre heq =>
  ⟨fun c => Cert.ReferenceIdeal.Layer.layer1 (F := Ideal) (launchContents m' c),
    (θ_run Cert.KernelIdeal.defs _ _).mono (fun _ h c => ⟨((h.1.1 c).1 12).trans (value m m' hpre c (heq c)), h.2.1 c⟩)
      (θ_run_and (Cert.KernelIdeal.Track.run_main_quiescent m g) (Cert.KernelIdeal.Track.frame m g)),
    Cert.ReferenceIdeal.Layer.run_layer1 m' g'⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate: the frames, that no operation was replaced, and that kernel and reference end with the same array. -/
theorem claim : Cert.Claim := ⟨Cert.Kernel.Gen.facts, Cert.KernelIdeal.Gen.facts, Cert.ReferenceIdeal.Gen.facts,
  Cert.Precond.facts, Cert.Frames.frame_kernel, Cert.Frames.frame_ideal,
  fun m g _ => Cert.Frames.frame_ideal m g trivial, Cert.Frames.frame_reference,
  fun m g _ => Cert.Frames.frame_reference m g trivial, trivial, Cert.Value.algebraic⟩

end Cert.Proof

end
